-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "inv_sqrt2" .f32 0x3F3504F3#32 (((Real.sqrt 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x128x256 : Shape := ⟨3, ![2, 128, 256]⟩
abbrev S4x256x256 : Shape := ⟨3, ![4, 256, 256]⟩
abbrev S256x772 : Shape := ⟨2, ![256, 772]⟩
abbrev S256 : Shape := ⟨1, ![256]⟩
abbrev S256x256 : Shape := ⟨2, ![256, 256]⟩
abbrev S256x4 : Shape := ⟨2, ![256, 4]⟩
abbrev S4x256 : Shape := ⟨2, ![4, 256]⟩
abbrev S256x4x256 : Shape := ⟨3, ![256, 4, 256]⟩
abbrev S256x1024 : Shape := ⟨2, ![256, 1024]⟩
abbrev S1x256 : Shape := ⟨2, ![1, 256]⟩
abbrev S2x128x128x256 : Shape := ⟨4, ![2, 128, 128, 256]⟩
abbrev S1x128x256 : Shape := ⟨3, ![1, 128, 256]⟩
abbrev S1x32x256 : Shape := ⟨3, ![1, 32, 256]⟩
abbrev S1x32x128x256 : Shape := ⟨4, ![1, 32, 128, 256]⟩
abbrev S128x256 : Shape := ⟨2, ![128, 256]⟩
abbrev S8x256 : Shape := ⟨2, ![8, 256]⟩
abbrev S128x4x128 : Shape := ⟨3, ![128, 4, 128]⟩
abbrev S32x256 : Shape := ⟨2, ![32, 256]⟩
abbrev S128x1 : Shape := ⟨2, ![128, 1]⟩
abbrev S127x256 : Shape := ⟨2, ![127, 256]⟩
abbrev S2x256 : Shape := ⟨2, ![2, 256]⟩
abbrev S126x256 : Shape := ⟨2, ![126, 256]⟩
abbrev S124x256 : Shape := ⟨2, ![124, 256]⟩
abbrev S120x256 : Shape := ⟨2, ![120, 256]⟩
abbrev S8x16x256 : Shape := ⟨3, ![8, 16, 256]⟩
abbrev S8x1x256 : Shape := ⟨3, ![8, 1, 256]⟩
abbrev S128x1024 : Shape := ⟨2, ![128, 1024]⟩
abbrev S512x256 : Shape := ⟨2, ![512, 256]⟩
abbrev S512x128 : Shape := ⟨2, ![512, 128]⟩
abbrev S8x1 : Shape := ⟨2, ![8, 1]⟩
abbrev S1x128x1 : Shape := ⟨3, ![1, 128, 1]⟩
abbrev S16x16x1 : Shape := ⟨3, ![16, 16, 1]⟩
abbrev S7x256 : Shape := ⟨2, ![7, 256]⟩
abbrev S6x256 : Shape := ⟨2, ![6, 256]⟩
abbrev S16x256 : Shape := ⟨2, ![16, 256]⟩
abbrev S16x1x256 : Shape := ⟨3, ![16, 1, 256]⟩
abbrev S16x128x256 : Shape := ⟨3, ![16, 128, 256]⟩
abbrev S1x16x256 : Shape := ⟨3, ![1, 16, 256]⟩
abbrev S16x16x256 : Shape := ⟨3, ![16, 16, 256]⟩
abbrev S16x15x256 : Shape := ⟨3, ![16, 15, 256]⟩
abbrev S16x2x256 : Shape := ⟨3, ![16, 2, 256]⟩
abbrev S16x14x256 : Shape := ⟨3, ![16, 14, 256]⟩
abbrev S16x4x256 : Shape := ⟨3, ![16, 4, 256]⟩
abbrev S16x12x256 : Shape := ⟨3, ![16, 12, 256]⟩
abbrev S16x8x256 : Shape := ⟨3, ![16, 8, 256]⟩
abbrev S16x1x16x256 : Shape := ⟨4, ![16, 1, 16, 256]⟩
abbrev S16x8x16x256 : Shape := ⟨4, ![16, 8, 16, 256]⟩
abbrev S32x128x256 : Shape := ⟨3, ![32, 128, 256]⟩
abbrev S4096x256 : Shape := ⟨2, ![4096, 256]⟩
abbrev S1x4x128 : Shape := ⟨3, ![1, 4, 128]⟩
abbrev S4x128 : Shape := ⟨2, ![4, 128]⟩
abbrev S128x4 : Shape := ⟨2, ![128, 4]⟩
abbrev S1x1x128x256 : Shape := ⟨4, ![1, 1, 128, 256]⟩

abbrev nBuf : Space → Nat
  | .hbm => 17
  | .vmem => 20
  | .smem => 0
  | _ => 0

abbrev bufTy : (tb : Table) → Fin (tcTables nBuf tb) → BufTy
  | .hbm, ⟨0, _⟩ => ⟨S2x128x256, .f32⟩
  | .hbm, ⟨1, _⟩ => ⟨S2x128x256, .f32⟩
  | .hbm, ⟨2, _⟩ => ⟨S4x256x256, .f32⟩
  | .hbm, ⟨3, _⟩ => ⟨S256x772, .f32⟩
  | .hbm, ⟨4, _⟩ => ⟨S256, .f32⟩
  | .hbm, ⟨5, _⟩ => ⟨S256x256, .f32⟩
  | .hbm, ⟨6, _⟩ => ⟨S256x256, .f32⟩
  | .hbm, ⟨7, _⟩ => ⟨S256x256, .f32⟩
  | .hbm, ⟨8, _⟩ => ⟨S256x256, .f32⟩
  | .hbm, ⟨9, _⟩ => ⟨S256x256, .f32⟩
  | .hbm, ⟨10, _⟩ => ⟨S256x256, .f32⟩
  | .hbm, ⟨11, _⟩ => ⟨S256x4, .f32⟩
  | .hbm, ⟨12, _⟩ => ⟨S4x256, .f32⟩
  | .hbm, ⟨13, _⟩ => ⟨S256x4x256, .f32⟩
  | .hbm, ⟨14, _⟩ => ⟨S256x1024, .f32⟩
  | .hbm, ⟨15, _⟩ => ⟨S1x256, .f32⟩
  | .hbm, ⟨16, _⟩ => ⟨S2x128x128x256, .f32⟩
  | .local _ .vmem, ⟨0, _⟩ => ⟨S1x128x256, .f32⟩
  | .local _ .vmem, ⟨1, _⟩ => ⟨S1x128x256, .f32⟩
  | .local _ .vmem, ⟨2, _⟩ => ⟨S1x32x256, .f32⟩
  | .local _ .vmem, ⟨3, _⟩ => ⟨S1x32x256, .f32⟩
  | .local _ .vmem, ⟨4, _⟩ => ⟨S1x128x256, .f32⟩
  | .local _ .vmem, ⟨5, _⟩ => ⟨S1x128x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x1024, .f32⟩
  | .local _ .vmem, ⟨10, _⟩ => ⟨S4x256, .f32⟩
  | .local _ .vmem, ⟨11, _⟩ => ⟨S1x256, .f32⟩
  | .local _ .vmem, ⟨12, _⟩ => ⟨S1x32x128x256, .f32⟩
  | .local _ .vmem, ⟨13, _⟩ => ⟨S1x32x128x256, .f32⟩
  | .local _ .vmem, ⟨14, _⟩ => ⟨S128x256, .f32⟩
  | .local _ .vmem, ⟨15, _⟩ => ⟨S128x256, .f32⟩
  | .local _ .vmem, ⟨16, _⟩ => ⟨S128x256, .f32⟩
  | .local _ .vmem, ⟨17, _⟩ => ⟨S8x256, .f32⟩
  | .local _ .vmem, ⟨18, _⟩ => ⟨S128x4x128, .f32⟩
  | .local _ .vmem, ⟨19, _⟩ => ⟨S128x256, .f32⟩
  | _, _ => ⟨S2x128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![2, 4], ![false, false]⟩

def k0_off1 (i : grid0.Coords) (c0_i32_30 : BitVec 32) : Fin 2 → Nat :=
  let arg1 : BitVec 32 := BitVec.ofNat 32 (i 1).val
  let c32_i32 : BitVec 32 := 32#32
  let v96 : BitVec 32 := Scalar.muli arg1 c32_i32
  let v97 : BitVec 32 := Scalar.addi v96 c0_i32_30
  let v98 : Index := Scalar.indexCast v97
  let c0_31 : Index := 0#32
  ![v98.toNat, 0]
def k0_off2 (i : grid0.Coords) (c0_i32_77 : BitVec 32) : Fin 3 → Nat :=
  let arg1 : BitVec 32 := BitVec.ofNat 32 (i 1).val
  let c32_i32_76 : BitVec 32 := 32#32
  let v319 : BitVec 32 := Scalar.muli arg1 c32_i32_76
  let v320 : BitVec 32 := Scalar.addi v319 c0_i32_77
  let v321 : Index := Scalar.indexCast v320
  let c0_78 : Index := 0#32
  let c0_79 : Index := 0#32
  ![v321.toNat, 0, 0]
def k0_off3 (i : grid0.Coords) (c0_i32_84 : BitVec 32) : Fin 2 → Nat :=
  let arg1 : BitVec 32 := BitVec.ofNat 32 (i 1).val
  let c32_i32_83 : BitVec 32 := 32#32
  let v331 : BitVec 32 := Scalar.muli arg1 c32_i32_83
  let v332 : BitVec 32 := Scalar.addi v331 c0_i32_84
  let v333 : Index := Scalar.indexCast v332
  let c0_85 : Index := 0#32
  ![v333.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x32x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x32x128x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== KernelIdeal.lean ====
variable {F : FTy → Type} [FloatOps F] [Named F]
def κ : String → Option EReal := fun
  | "inv_sqrt2" => some (((Real.sqrt 2)⁻¹ : ℝ) : EReal)
  | _ => none
-- ==== ReferenceIdeal.lean ====
abbrev S2x128x256 : Shape := ⟨3, ![2, 128, 256]⟩
abbrev S4x256x256 : Shape := ⟨3, ![4, 256, 256]⟩
abbrev S256x772 : Shape := ⟨2, ![256, 772]⟩
abbrev S256 : Shape := ⟨1, ![256]⟩
abbrev S128x128x128 : Shape := ⟨3, ![128, 128, 128]⟩
abbrev S1x128x128x128x1 : Shape := ⟨5, ![1, 128, 128, 128, 1]⟩
abbrev S2x1x1x128x256 : Shape := ⟨5, ![2, 1, 1, 128, 256]⟩
abbrev S_ : Shape := ⟨0, ![]⟩
abbrev S2x128x128x128x256 : Shape := ⟨5, ![2, 128, 128, 128, 256]⟩
abbrev S2x128x128x256 : Shape := ⟨4, ![2, 128, 128, 256]⟩
abbrev S2x128x1x256 : Shape := ⟨4, ![2, 128, 1, 256]⟩
abbrev S2x1x128x256 : Shape := ⟨4, ![2, 1, 128, 256]⟩
abbrev S4x256x2x128x128 : Shape := ⟨5, ![4, 256, 2, 128, 128]⟩
abbrev S2x128x128x4 : Shape := ⟨4, ![2, 128, 128, 4]⟩
abbrev S2x128x128x772 : Shape := ⟨4, ![2, 128, 128, 772]⟩
abbrev S772x256 : Shape := ⟨2, ![772, 256]⟩
abbrev S1x1x1x256 : Shape := ⟨4, ![1, 1, 1, 256]⟩

abbrev nBuf : Space → Nat
  | .hbm => 46
  | .vmem => 0
  | .smem => 0
  | _ => 0

abbrev bufTy : (tb : Table) → Fin (tcTables nBuf tb) → BufTy
  | .hbm, ⟨0, _⟩ => ⟨S2x128x256, .f32⟩
  | .hbm, ⟨1, _⟩ => ⟨S2x128x256, .f32⟩
  | .hbm, ⟨2, _⟩ => ⟨S4x256x256, .f32⟩
  | .hbm, ⟨3, _⟩ => ⟨S256x772, .f32⟩
  | .hbm, ⟨4, _⟩ => ⟨S256, .f32⟩
  | .hbm, ⟨5, _⟩ => ⟨S128x128x128, .i32⟩
  | .hbm, ⟨6, _⟩ => ⟨S128x128x128, .i32⟩
  | .hbm, ⟨7, _⟩ => ⟨S128x128x128, .i32⟩
  | .hbm, ⟨8, _⟩ => ⟨S128x128x128, .i32⟩
  | .hbm, ⟨9, _⟩ => ⟨S128x128x128, .i1⟩
  | .hbm, ⟨10, _⟩ => ⟨S128x128x128, .i32⟩
  | .hbm, ⟨11, _⟩ => ⟨S128x128x128, .i1⟩
  | .hbm, ⟨12, _⟩ => ⟨S128x128x128, .i1⟩
  | .hbm, ⟨13, _⟩ => ⟨S1x128x128x128x1, .i1⟩
  | .hbm, ⟨14, _⟩ => ⟨S2x1x1x128x256, .f32⟩
  | .hbm, ⟨15, _⟩ => ⟨S_, .f32⟩
  | .hbm, ⟨16, _⟩ => ⟨S_, .f32⟩
  | .hbm, ⟨17, _⟩ => ⟨S2x128x128x128x256, .i1⟩
  | .hbm, ⟨18, _⟩ => ⟨S2x128x128x128x256, .f32⟩
  | .hbm, ⟨19, _⟩ => ⟨S2x128x128x128x256, .f32⟩
  | .hbm, ⟨20, _⟩ => ⟨S2x128x128x128x256, .f32⟩
  | .hbm, ⟨21, _⟩ => ⟨S_, .f32⟩
  | .hbm, ⟨22, _⟩ => ⟨S2x128x128x256, .f32⟩
  | .hbm, ⟨23, _⟩ => ⟨S2x128x1x256, .f32⟩
  | .hbm, ⟨24, _⟩ => ⟨S2x128x128x256, .f32⟩
  | .hbm, ⟨25, _⟩ => ⟨S2x1x128x256, .f32⟩
  | .hbm, ⟨26, _⟩ => ⟨S2x128x128x256, .f32⟩
  | .hbm, ⟨27, _⟩ => ⟨S4x256x2x128x128, .f32⟩
  | .hbm, ⟨28, _⟩ => ⟨S2x128x128x4, .f32⟩
  | .hbm, ⟨29, _⟩ => ⟨S2x128x128x772, .f32⟩
  | .hbm, ⟨30, _⟩ => ⟨S772x256, .f32⟩
  | .hbm, ⟨31, _⟩ => ⟨S2x128x128x256, .f32⟩
  | .hbm, ⟨32, _⟩ => ⟨S1x1x1x256, .f32⟩
  | .hbm, ⟨33, _⟩ => ⟨S2x128x128x256, .f32⟩
  | .hbm, ⟨34, _⟩ => ⟨S2x128x128x256, .f32⟩
  | .hbm, ⟨35, _⟩ => ⟨S_, .f32⟩
  | .hbm, ⟨36, _⟩ => ⟨S2x128x128x256, .f32⟩
  | .hbm, ⟨37, _⟩ => ⟨S2x128x128x256, .f32⟩
  | .hbm, ⟨38, _⟩ => ⟨S2x128x128x256, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S2x128x128x256, .f32⟩
  | .hbm, ⟨43, _⟩ => ⟨S2x128x128x256, .f32⟩
  | .hbm, ⟨44, _⟩ => ⟨S2x128x128x256, .f32⟩
  | .hbm, ⟨45, _⟩ => ⟨S2x128x128x256, .f32⟩
  | _, _ => ⟨S2x128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_1 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_2 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩

abbrev nD : Nat := 1
abbrev τ : Topo := Topo.v7x

variable {F : FTy → Type} [FloatOps F]
-- ==== Proof.Blocks.lean ====
/-
  The blocks that a grid point is given, entry by entry, as entries of the five arguments.
-/
module

public import proofs.«01_k».proof.Proof.Gen.KernelIdeal.Value
public import Idealize.ShloMosaic.Lib.Pipeline.ValueKit
public import Idealize.ShloMosaic.Lib.Claim
public import Idealize.ShloMosaic.Lib.Pointwise
public import Idealize.ShloMosaic.Lib.Pointwise.IndexVar

@[expose] public section

set_option maxRecDepth 16384

noncomputable section

namespace Cert.Blocks

open Idealize.ShloMosaic Idealize.ShloMosaic.TcCoe
open Cert.KernelIdeal Cert.KernelIdeal.Gen Cert.KernelIdeal.Value

variable (m : (ℓ : Loc nD τ sig) → Buf (Elt Ideal) ℓ) (c : Dev nD) (t : Fin cfg0.N)

/-- Which block of its array each window is at. -/
theorem idx : ∀ t : Fin cfg0.N, win0_0.index t = ![t.val / 4, 0, 0] ∧ win0_1.index t = ![t.val / 4, t.val % 4, 0]
    ∧ win0_2.index t = ![t.val / 4, 0, 0] ∧ win0_3.index t = ![0, 0] ∧ win0_4.index t = ![0, 0] ∧ win0_5.index t = ![0, 0]
    ∧ win0_6.index t = ![0, 0] ∧ win0_7.index t = ![0, 0] ∧ win0_8.index t = ![0, 0]
    ∧ win0_9.index t = ![t.val / 4, t.val % 4, 0, 0] ∧ t.val / 4 < 2 :=
  (by decide +kernel : ∀ t : Fin grid0.N, _)

/-- The point's batch element. -/
abbrev batch : Fin 2 := ⟨t.val / 4, (idx t).2.2.2.2.2.2.2.2.2.2⟩

/-- The arguments. -/
abbrev argX : FVec Ideal S2x128x256 .f32 := m ((c : Thread nD τ).loc main_arg0)
abbrev argY : FVec Ideal S2x128x256 .f32 := m ((c : Thread nD τ).loc main_arg1)
abbrev argV : FVec Ideal S4x256x256 .f32 := m ((c : Thread nD τ).loc main_arg2)
abbrev argW : FVec Ideal S256x772 .f32 := m ((c : Thread nD τ).loc main_arg3)
abbrev argB : FVec Ideal S256 .f32 := m ((c : Thread nD τ).loc main_arg4)

theorem x_at (n : Fin 128) (l : Fin 256) : iblk m c 0 t (ix3 0 n l) = argX m c (ix3 (batch t) n l) := by
  blk_ext [iblk, V, idx t]

theorem rows_at (r : Fin 32) (l : Fin 256) :
    iblk m c 1 t (ix3 0 r l) = argX m c (ix3 (batch t) ⟨32 * (t.val % 4) + r, by omega⟩ l) := by
  blk_ext [iblk, V, idx t]

theorem y_at (n : Fin 128) (l : Fin 256) : iblk m c 2 t (ix3 0 n l) = argY m c (ix3 (batch t) n l) := by
  blk_ext [iblk, V, idx t]

theorem w1_at (p h : Fin 256) : iblk m c 3 t (ix2 p h) = argW m c (ix2 h ⟨p, by omega⟩) := by
  blk_point [iblk, V, idx t]

theorem w2_at (p h : Fin 256) : iblk m c 4 t (ix2 p h) = argW m c (ix2 h ⟨256 + p, by omega⟩) := by
  blk_point [iblk, V, idx t]

theorem w3_at (p h : Fin 256) : iblk m c 5 t (ix2 p h) = argW m c (ix2 h ⟨512 + p, by omega⟩) := by
  blk_point [iblk, V, idx t]

theorem v_at (p : Fin 256) (k : Fin 4) (d : Fin 256) :
    iblk m c 6 t (ix2 p ⟨k.val * 256 + d, by omega⟩) = argV m c (ix3 k p d) := by
  blk_point [iblk, V, idx t]

theorem w4_at (k : Fin 4) (h : Fin 256) : iblk m c 7 t (ix2 k h) = argW m c (ix2 h ⟨768 + k, by omega⟩) := by
  blk_point [iblk, V, idx t]

theorem b_at (h : Fin 256) : iblk m c 8 t (ix2 0 h) = argB m c (ix1 h) := by
  blk_point [iblk, V, idx t]

end Cert.Blocks

end
-- ==== Proof.Consts.lean ====
/-
  The float constants of the two programs, as extended reals: `-∞`, which pads every running maximum, the `2` whose root
  the reference takes, and the kernel's named constant `1/√2`.
-/
module

public import proofs.«01_k».proof.Proof.Gen.KernelIdeal
public import Idealize.ShloMosaic.PureOps.IdealRules

@[expose] public section

noncomputable section

namespace Cert.Consts

open Idealize.ShloMosaic

/-- The padding of the running maxima is `-∞`. -/
theorem ofBits_bot : Ideal.ofBits .f32 0xFF800000#32 = ⊥ := by
  simp [Ideal.ofBits, Ideal.ieee]

/-- The same constant as the kernel spells it. -/
theorem scalar_bot : (Scalar.ofBits .f32 0xFF800000#32 : Ideal .f32) = ⊥ := ofBits_bot

/-- `2.0`, whose root the reference takes, is the real `2`. -/
theorem ofBits_two : Ideal.ofBits .f32 0x40000000#32 = ((2 : ℝ) : EReal) := by
  simp [Ideal.ofBits, Ideal.ieee, -EReal.coe_mul]
  norm_num

/-- The kernel's named constant is the real `1/√2`. -/
theorem inv_sqrt2 :
    Named.named (F := Ideal) Cert.KernelIdeal.κ "inv_sqrt2" (φ := .f32) 0x3F3504F3#32 = (((Real.sqrt 2)⁻¹ : ℝ) : EReal) :=
  IdealRules.named_const.ideal_named_scalar _ _ _ _ rfl

end Cert.Consts

end
-- ==== Proof.Row.lean ====
/-
  One row of the kernel's output: the context's, the pairing's and the two rows' parts of the linear layer added, and the
  exact gelu of the sum (`row_at`).
-/
module

public import proofs.«01_k».proof.Proof.Consts
public import proofs.«01_k».proof.Proof.Gen.KernelIdeal.Skeleton
public import Idealize.ShloMosaic.Lib.Pointwise
public import Idealize.ShloMosaic.Lib.Pointwise.IndexVar

@[expose] public section

set_option maxRecDepth 16384

noncomputable section

namespace Cert.Row

open Idealize.ShloMosaic Idealize.ShloMosaic.TcCoe
open Cert.KernelIdeal Cert.KernelIdeal.Gen

/-- The kernel's gelu: `x/2 · (1 + erf (x · 1/√2))`. -/
def gelu (x : EReal) : EReal :=
  Ideal.ofBits .f32 0x3F000000#32 * x * (Ideal.ofBits .f32 0x3F800000#32 + Ideal.erf (x * (((Real.sqrt 2)⁻¹ : ℝ) : EReal)))

/-- The sum under the gelu in one row. -/
def acc (r : ℕ) (hr : S32x128x256.Slices ![r, 0, 0] S1x128x256) (s3 : FVec Ideal S32x128x256 .f32) (cn : FVec Ideal S128x256 .f32)
    (z : FVec Ideal S1x4x128 .f32) (w4 : FVec Ideal S4x256 .f32) (a : FVec Ideal S1x256 .f32) : FVec Ideal S128x256 .f32 :=
  addf (addf (shapeCast S128x256 (extractStridedSlice S1x128x256 ![r, 0, 0] s3 hr) shapeCasts_S1x128x256_S128x256)
    (matmul dot_S128x4_S4x256_S128x256_1_0_0_1_n_n none
      (transpose S128x4 [1, 0] (shapeCast S4x128 z shapeCasts_S1x4x128_S4x128) transposes_S4x128_p1_0_S128x4)
      (shapeCast S4x256 w4 shapeCasts_S4x256_S4x256) (constant S128x256 .f32 0x00000000#32)))
    (addf cn (broadcastTo S128x256 a broadcasts_S1x256_S128x256))

/-- One row of the output. -/
def row (r : ℕ) (hr : S32x128x256.Slices ![r, 0, 0] S1x128x256) (s3 : FVec Ideal S32x128x256 .f32) (cn : FVec Ideal S128x256 .f32)
    (z : FVec Ideal S1x4x128 .f32) (w4 : FVec Ideal S4x256 .f32) (a : FVec Ideal S1x256 .f32) : FVec Ideal S1x1x128x256 .f32 :=
  shapeCast S1x1x128x256
    (mulf (mulf (broadcast S128x256 (Scalar.ofBits .f32 0x3F000000#32)) (acc r hr s3 cn z w4 a))
      (addf (broadcast S128x256 (Scalar.ofBits .f32 0x3F800000#32))
        (erf (mulf (acc r hr s3 cn z w4 a) (broadcast S128x256 (Named.named Cert.KernelIdeal.κ "inv_sqrt2" 0x3F3504F3#32))))))
    shapeCasts_S128x256_S1x1x128x256

/-- The sum at an entry. -/
theorem acc_at (r : Fin 32) {hr} (s3 : FVec Ideal S32x128x256 .f32) (cn : FVec Ideal S128x256 .f32)
    (z : FVec Ideal S1x4x128 .f32) (w4 : FVec Ideal S4x256 .f32) (a : FVec Ideal S1x256 .f32) (n : Fin 128) (h : Fin 256) :
    acc r hr s3 cn z w4 a (ix2 n h)
      = s3 (ix3 r n h) + ∑ k : Fin 4, z (ix3 0 k n) * w4 (ix2 k h) + (cn (ix2 n h) + a (ix2 0 h)) := by
  pointwise [acc]

/-- One row of the output at an entry. -/
theorem row_at (r : Fin 32) {hr} (s3 : FVec Ideal S32x128x256 .f32) (cn : FVec Ideal S128x256 .f32)
    (z : FVec Ideal S1x4x128 .f32) (w4 : FVec Ideal S4x256 .f32) (a : FVec Ideal S1x256 .f32) (n : Fin 128) (h : Fin 256) :
    row r hr s3 cn z w4 a (ix4 0 0 n h)
      = gelu (s3 (ix3 r n h) + ∑ k : Fin 4, z (ix3 0 k n) * w4 (ix2 k h) + (cn (ix2 n h) + a (ix2 0 h))) := by
  pointwise [row, acc_at, gelu]
  rw [← Consts.inv_sqrt2]
  rfl

end Cert.Row

end
-- ==== Proof.RangeMax.lean ====
/-
  The maximum of a sequence of extended reals over an interval of positions, and how such maxima join.
  Everything the kernel keeps about the rows of `x` (running maxima inside a block of sixteen rows, maxima of whole
  blocks, maxima across blocks) and the context of the reference are maxima over intervals: one lemma, `join`, relates
  them all.
-/
module

public import Mathlib.Data.EReal.Basic
public import Mathlib.Order.Interval.Finset.Nat

@[expose] public section

noncomputable section

namespace Cert.RangeMax

/-- The maximum of `f` over the positions `a ≤ k < b`, and `-∞` where there are none. -/
def rng (f : ℕ → EReal) (a b : ℕ) : EReal := (Finset.Ico a b).sup f

/-- An interval without positions has maximum `-∞`. -/
theorem rng_empty (f : ℕ → EReal) {a b : ℕ} (h : b ≤ a) : rng f a b = ⊥ := by
  rw [rng, Finset.Ico_eq_empty_of_le h, Finset.sup_empty]

/-- The maximum over a single position is the value there. -/
theorem rng_one (f : ℕ → EReal) {a b : ℕ} (h : b = a + 1) : rng f a b = f a := by
  subst h
  rw [rng, Nat.Ico_succ_singleton, Finset.sup_singleton]

/-- The maximum depends on the set of positions alone. -/
theorem rng_congr (f : ℕ → EReal) {a b a' b' : ℕ} (h : ∀ k, a ≤ k ∧ k < b ↔ a' ≤ k ∧ k < b') :
    rng f a b = rng f a' b' := by
  unfold rng
  congr 1
  ext k
  simpa only [Finset.mem_Ico] using h k

/-- The larger of the maxima over two intervals is the maximum over an interval made of exactly their positions. -/
theorem join (f : ℕ → EReal) {a b a' b' c d : ℕ} (h : ∀ k, c ≤ k ∧ k < d ↔ (a ≤ k ∧ k < b) ∨ (a' ≤ k ∧ k < b')) :
    max (rng f a b) (rng f a' b') = rng f c d := by
  unfold rng
  change (Finset.Ico a b).sup f ⊔ (Finset.Ico a' b').sup f = _
  rw [← Finset.sup_union]
  congr 1
  ext k
  simpa only [Finset.mem_union, Finset.mem_Ico] using (h k).symm

/-- A sequence of 128 values continued by `-∞`. -/
def seq (f : Fin 128 → EReal) (k : ℕ) : EReal := if h : k < 128 then f ⟨k, h⟩ else ⊥

/-- The sequence at one of its 128 positions. -/
theorem seq_apply (f : Fin 128 → EReal) (k : Fin 128) : seq f k = f k := by
  simp only [seq, k.isLt, ↓reduceDIte]

/-- A maximum taken over all 128 positions, with the value `-∞` put in at the positions outside an interval, is the
    maximum over the interval. -/
theorem fold_eq_rng (f : Fin 128 → EReal) (g : Fin 128 → EReal) (a b : ℕ) (hb : b ≤ 128)
    (hin : ∀ k : Fin 128, a ≤ k.val ∧ k.val < b → g k = f k) (hout : ∀ k : Fin 128, ¬(a ≤ k.val ∧ k.val < b) → g k = ⊥) :
    Finset.univ.fold max ⊥ g = rng (seq f) a b := by
  change Finset.univ.sup g = (Finset.Ico a b).sup (seq f)
  apply le_antisymm
  · refine Finset.sup_le fun k _ => ?_
    by_cases h : a ≤ k.val ∧ k.val < b
    · rw [hin k h, ← seq_apply f k]
      exact Finset.le_sup (f := seq f) (Finset.mem_Ico.mpr h)
    · rw [hout k h]
      exact bot_le
  · refine Finset.sup_le fun k hk => ?_
    have hk' := Finset.mem_Ico.mp hk
    have hlt : k < 128 := lt_of_lt_of_le hk'.2 hb
    have h1 : seq f k = g ⟨k, hlt⟩ := by
      rw [hin ⟨k, hlt⟩ hk']
      exact seq_apply f ⟨k, hlt⟩
    rw [h1]
    exact Finset.le_sup (f := g) (Finset.mem_univ _)

end Cert.RangeMax

end
-- ==== Proof.Shift.lean ====
/-
  One step of a running maximum: every row becomes the larger of itself and the row `s` places away, rows beyond the edge
  counting as `-∞`, perhaps only where a mask says so. If every row held the maximum of a sequence over an interval, it
  does afterwards too, over the interval that joins its own and the other row's. The number of rows and the distance `s`
  are variables here, and so are the intervals.
-/
module

public import proofs.«01_k».proof.Proof.RangeMax
public import proofs.«01_k».proof.Proof.Consts
public import Idealize.ShloMosaic.Lib.Pointwise
public import Idealize.ShloMosaic.Lib.Pointwise.IndexVar

@[expose] public section

set_option maxRecDepth 16384

noncomputable section

namespace Cert.Shift

open Idealize.ShloMosaic Idealize.ShloMosaic.TcCoe
open Cert.RangeMax

/-- An array of `N` rows of 256 lanes. -/
abbrev rows (N : ℕ) : Shape := ⟨2, ![N, 256]⟩

/-- Sixteen arrays of `N` rows of 256 lanes. -/
abbrev planes (N : ℕ) : Shape := ⟨3, ![16, N, 256]⟩

/-- The larger of each row and the row `s` places before it. -/
def maxDn (N s p : ℕ) (c : Ideal .f32) (v : FVec Ideal (rows N) .f32) (h1 : (rows N).Slices ![0, 0] (rows p))
    (h2 : Shape.Concatenates [rows s, rows p] (rows N) 0) : FVec Ideal (rows N) .f32 :=
  maximumf v (concatenate (rows N) 0 [⟨rows s, broadcast (rows s) c⟩, ⟨rows p, extractStridedSlice (rows p) ![0, 0] v h1⟩] h2)

/-- The larger of each row and the row `s` places after it. -/
def maxUp (N s p : ℕ) (c : Ideal .f32) (v : FVec Ideal (rows N) .f32) (h1 : (rows N).Slices ![s, 0] (rows p))
    (h2 : Shape.Concatenates [rows p, rows s] (rows N) 0) : FVec Ideal (rows N) .f32 :=
  maximumf v (concatenate (rows N) 0 [⟨rows p, extractStridedSlice (rows p) ![s, 0] v h1⟩, ⟨rows s, broadcast (rows s) c⟩] h2)

/-- `maxDn` in each of sixteen planes. -/
def maxDn3 (N s p : ℕ) (c : Ideal .f32) (v : FVec Ideal (planes N) .f32) (h1 : (planes N).Slices ![0, 0, 0] (planes p))
    (h2 : Shape.Concatenates [planes s, planes p] (planes N) 1) : FVec Ideal (planes N) .f32 :=
  maximumf v (concatenate (planes N) 1 [⟨planes s, broadcast (planes s) c⟩, ⟨planes p, extractStridedSlice (planes p) ![0, 0, 0] v h1⟩] h2)

/-- `maxUp` in each of sixteen planes. -/
def maxUp3 (N s p : ℕ) (c : Ideal .f32) (v : FVec Ideal (planes N) .f32) (h1 : (planes N).Slices ![0, s, 0] (planes p))
    (h2 : Shape.Concatenates [planes p, planes s] (planes N) 1) : FVec Ideal (planes N) .f32 :=
  maximumf v (concatenate (planes N) 1 [⟨planes p, extractStridedSlice (planes p) ![0, s, 0] v h1⟩, ⟨planes s, broadcast (planes s) c⟩] h2)

/-- Rows that hold maxima over intervals hold, after `maxDn`, the maxima over the intervals joined with those `s` rows before. -/
theorem maxDn_at {N s p : ℕ} {c : Ideal .f32} (hc : c = ⊥) (v : FVec Ideal (rows N) .f32) {h1} {h2}
    (f : Fin 256 → ℕ → EReal) (lo hi : ℕ → ℕ)
    (hv : ∀ (n : Fin N) (l : Fin 256), v (ix2 n l) = rng (f l) (lo n) (hi n)) (n : Fin N) (l : Fin 256) (c0 d : ℕ)
    (hj : ∀ k, c0 ≤ k ∧ k < d ↔ (lo n ≤ k ∧ k < hi n) ∨ (s ≤ n.val ∧ lo (n - s) ≤ k ∧ k < hi (n - s))) :
    maxDn N s p c v h1 h2 (ix2 n l) = rng (f l) c0 d := by
  pointwise [maxDn]
  split
  · next h =>
    rw [hv, hc, max_bot_right]
    exact rng_congr _ fun k => by rw [hj]; omega
  · next h =>
    rw [hv, hv]
    exact join _ fun k => by rw [hj]; simp only; omega

/-- The same for `maxUp` and the rows `s` places after. -/
theorem maxUp_at {N s p : ℕ} {c : Ideal .f32} (hc : c = ⊥) (v : FVec Ideal (rows N) .f32) {h1} {h2} (hp : p + s = N)
    (f : Fin 256 → ℕ → EReal) (lo hi : ℕ → ℕ)
    (hv : ∀ (n : Fin N) (l : Fin 256), v (ix2 n l) = rng (f l) (lo n) (hi n)) (n : Fin N) (l : Fin 256) (c0 d : ℕ)
    (hj : ∀ k, c0 ≤ k ∧ k < d ↔ (lo n ≤ k ∧ k < hi n) ∨ (n.val + s < N ∧ lo (n + s) ≤ k ∧ k < hi (n + s))) :
    maxUp N s p c v h1 h2 (ix2 n l) = rng (f l) c0 d := by
  pointwise [maxUp]
  split
  · next h =>
    rw [hv, hv]
    exact join _ fun k => by rw [hj]; simp only [Nat.add_comm s]; omega
  · next h =>
    rw [hv, hc, max_bot_right]
    exact rng_congr _ fun k => by rw [hj]; omega

/-- The same for `maxDn3`; the intervals may depend on the plane too. -/
theorem maxDn3_at {N s p : ℕ} {c : Ideal .f32} (hc : c = ⊥) (v : FVec Ideal (planes N) .f32) {h1} {h2}
    (f : Fin 256 → ℕ → EReal) (lo hi : ℕ → ℕ → ℕ)
    (hv : ∀ (r : Fin 16) (n : Fin N) (l : Fin 256), v (ix3 r n l) = rng (f l) (lo r n) (hi r n))
    (r : Fin 16) (n : Fin N) (l : Fin 256) (c0 d : ℕ)
    (hj : ∀ k, c0 ≤ k ∧ k < d ↔ (lo r n ≤ k ∧ k < hi r n) ∨ (s ≤ n.val ∧ lo r (n - s) ≤ k ∧ k < hi r (n - s))) :
    maxDn3 N s p c v h1 h2 (ix3 r n l) = rng (f l) c0 d := by
  pointwise [maxDn3]
  split
  · next h =>
    rw [hv, hc, max_bot_right]
    exact rng_congr _ fun k => by rw [hj]; omega
  · next h =>
    rw [hv, hv]
    exact join _ fun k => by rw [hj]; simp only; omega

/-- The same for `maxUp3`. -/
theorem maxUp3_at {N s p : ℕ} {c : Ideal .f32} (hc : c = ⊥) (v : FVec Ideal (planes N) .f32) {h1} {h2} (hp : p + s = N)
    (f : Fin 256 → ℕ → EReal) (lo hi : ℕ → ℕ → ℕ)
    (hv : ∀ (r : Fin 16) (n : Fin N) (l : Fin 256), v (ix3 r n l) = rng (f l) (lo r n) (hi r n))
    (r : Fin 16) (n : Fin N) (l : Fin 256) (c0 d : ℕ)
    (hj : ∀ k, c0 ≤ k ∧ k < d ↔ (lo r n ≤ k ∧ k < hi r n) ∨ (n.val + s < N ∧ lo r (n + s) ≤ k ∧ k < hi r (n + s))) :
    maxUp3 N s p c v h1 h2 (ix3 r n l) = rng (f l) c0 d := by
  pointwise [maxUp3]
  split
  · next h =>
    rw [hv, hv]
    exact join _ fun k => by rw [hj]; simp only [Nat.add_comm s]; omega
  · next h =>
    rw [hv, hc, max_bot_right]
    exact rng_congr _ fun k => by rw [hj]; omega

end Cert.Shift

end
-- ==== Proof.Scan.lean ====
/-
  What the kernel computes of a batch element's `x` in its first grid point: of every row the maximum from the start of
  its block of sixteen rows up to it (`prefix_at`), from it to the block's end (`suffix_at`), and the maximum of every
  block (`block_at`), each by doubling steps.
-/
module

public import proofs.«01_k».proof.Proof.Shift
public import proofs.«01_k».proof.Proof.Gen.KernelIdeal.Skeleton
public import Idealize.ShloMosaic.Lib.WordCmp

@[expose] public section

set_option maxRecDepth 16384

noncomputable section

namespace Cert.Scan

open Idealize.ShloMosaic Idealize.ShloMosaic.TcCoe
open Cert.RangeMax Cert.Shift Cert.KernelIdeal Cert.KernelIdeal.Gen

/-- The padding of the running maxima. -/
abbrev neg : Ideal .f32 := Scalar.ofBits .f32 0xFF800000#32

/-- One step of the running maximum from the start of the block: rows at least `s` into their block take in the row `s`
    places before. -/
def stepPre (s p : ℕ) (v : FVec Ideal S128x256 .f32) (h1 : (rows 128).Slices ![0, 0] (rows p))
    (h2 : Shape.Concatenates [rows s, rows p] (rows 128) 0) : FVec Ideal S128x256 .f32 :=
  select (broadcastTo S128x256 (shapeCast S128x1 (cmpi .sge k0_pay3 (broadcast S128x1 (BitVec.ofNat 32 s)))
    shapeCasts_S128x1_S128x1) broadcasts_S128x1_S128x256) (maxDn 128 s p neg v h1 h2) v

/-- One step of the running maximum to the end of the block: rows with `s` more rows in their block take in the row `s`
    places after. -/
def stepSuf (s p : ℕ) (v : FVec Ideal S128x256 .f32) (h1 : (rows 128).Slices ![s, 0] (rows p))
    (h2 : Shape.Concatenates [rows p, rows s] (rows 128) 0) : FVec Ideal S128x256 .f32 :=
  select (broadcastTo S128x256 (shapeCast S128x1 (cmpi .slt k0_pay3 (broadcast S128x1 (BitVec.ofNat 32 (16 - s))))
    shapeCasts_S128x1_S128x1) broadcasts_S128x1_S128x256) (maxUp 128 s p neg v h1 h2) v

/-- A row's place in its block of sixteen. -/
theorem place_at (n : Fin 128) : k0_pay3 (ix2 n 0) = BitVec.ofNat 32 (n % 16) := by
  pointwise [k0_pay3]
  revert n
  decide

/-- A step of the running maximum from the block's start doubles how far back it looks. -/
theorem stepPre_at {s p : ℕ} (hs : s ≤ 16) (v : FVec Ideal S128x256 .f32) {h1} {h2} (f : Fin 256 → ℕ → EReal)
    (hv : ∀ (n : Fin 128) (l : Fin 256), v (ix2 n l) = rng (f l) (max (n.val / 16 * 16) (n + 1 - s)) (n + 1))
    (n : Fin 128) (l : Fin 256) :
    stepPre s p v h1 h2 (ix2 n l) = rng (f l) (max (n.val / 16 * 16) (n + 1 - 2 * s)) (n + 1) := by
  pointwise [stepPre, place_at]
  simp (disch := omega) only [hlo_ix]
  split
  · next h =>
    exact maxDn_at Consts.scalar_bot v f (fun n => max (n / 16 * 16) (n + 1 - s)) (fun n => n + 1) hv n l _ _
      fun k => by omega
  · next h =>
    rw [hv]
    exact rng_congr _ fun k => by omega

/-- A step of the running maximum to the block's end doubles how far ahead it looks. -/
theorem stepSuf_at {s p : ℕ} (hs : s ≤ 16) (hp : p + s = 128) (v : FVec Ideal S128x256 .f32) {h1} {h2} (f : Fin 256 → ℕ → EReal)
    (hv : ∀ (n : Fin 128) (l : Fin 256), v (ix2 n l) = rng (f l) n (min (n + s) (n.val / 16 * 16 + 16)))
    (n : Fin 128) (l : Fin 256) :
    stepSuf s p v h1 h2 (ix2 n l) = rng (f l) n (min (n + 2 * s) (n.val / 16 * 16 + 16)) := by
  pointwise [stepSuf, place_at]
  simp (disch := omega) only [hlo_ix]
  split
  · next h =>
    exact maxUp_at Consts.scalar_bot v hp f (fun n => n) (fun n => min (n + s) (n / 16 * 16 + 16)) hv n l _ _
      fun k => by omega
  · next h =>
    rw [hv]
    exact rng_congr _ fun k => by omega

/-- The kernel's first two steps from the block's start. -/
theorem pay5_eq (v : FVec Ideal S128x256 .f32) : k0_pay5 (F := Ideal) v
    = stepPre 2 126 (stepPre 1 127 v slices_S128x256_o0_0_S127x256 concatenates_S1x256_S127x256_S128x256_d0)
        slices_S128x256_o0_0_S126x256 concatenates_S2x256_S126x256_S128x256_d0 := rfl

/-- The kernel's last two steps from the block's start. -/
theorem pay9_eq (v : FVec Ideal S128x256 .f32) : k0_pay9 (F := Ideal) k0_pay3 v
    = shapeCast S128x256 (stepPre 8 120 (stepPre 4 124 v slices_S128x256_o0_0_S124x256 concatenates_S4x256_S124x256_S128x256_d0)
        slices_S128x256_o0_0_S120x256 concatenates_S8x256_S120x256_S128x256_d0) shapeCasts_S128x256_S128x256 := rfl

/-- The kernel's first step to the block's end. -/
theorem pay4_eq (v : FVec Ideal S128x256 .f32) : k0_pay4 (F := Ideal) v
    = stepSuf 1 127 v slices_S128x256_o1_0_S127x256 concatenates_S127x256_S1x256_S128x256_d0 := rfl

/-- The kernel's last three steps to the block's end. -/
theorem pay8_eq (v : FVec Ideal S128x256 .f32) : k0_pay8 (F := Ideal) k0_pay3 v k0_pay6 k0_pay7
    = stepSuf 8 120 (stepSuf 4 124 (stepSuf 2 126 v slices_S128x256_o2_0_S126x256 concatenates_S126x256_S2x256_S128x256_d0)
        slices_S128x256_o4_0_S124x256 concatenates_S124x256_S4x256_S128x256_d0)
        slices_S128x256_o8_0_S120x256 concatenates_S120x256_S8x256_S128x256_d0 := rfl

variable (v : FVec Ideal S128x256 .f32) (f : Fin 256 → ℕ → EReal)

/-- Of every row the maximum from the start of its block up to it. -/
theorem prefix_at (hv : ∀ (n : Fin 128) (l : Fin 256), v (ix2 n l) = f l n) (n : Fin 128) (l : Fin 256) :
    k0_pay9 (F := Ideal) k0_pay3 (k0_pay5 v) (ix2 n l) = rng (f l) (n.val / 16 * 16) (n + 1) := by
  rw [pay9_eq, pay5_eq]
  pointwise
  rw [stepPre_at (by decide) _ f fun n l => ?_]
  · exact rng_congr _ fun k => by omega
  refine stepPre_at (by decide) _ f (fun n l => ?_) n l
  refine stepPre_at (by decide) _ f (fun n l => ?_) n l
  refine stepPre_at (by decide) _ f (fun n l => ?_) n l
  rw [hv, ← rng_one (f l) rfl]
  exact rng_congr _ fun k => by omega

/-- Of every row the maximum from it to the end of its block. -/
theorem suffix_at (hv : ∀ (n : Fin 128) (l : Fin 256), v (ix2 n l) = f l n) (n : Fin 128) (l : Fin 256) :
    k0_pay8 (F := Ideal) k0_pay3 (k0_pay4 v) k0_pay6 k0_pay7 (ix2 n l) = rng (f l) n (n.val / 16 * 16 + 16) := by
  rw [pay8_eq, pay4_eq]
  rw [stepSuf_at (by decide) (by decide) _ f fun n l => ?_]
  · exact rng_congr _ fun k => by omega
  refine stepSuf_at (by decide) (by decide) _ f (fun n l => ?_) n l
  refine stepSuf_at (by decide) (by decide) _ f (fun n l => ?_) n l
  refine stepSuf_at (by decide) (by decide) _ f (fun n l => ?_) n l
  rw [hv, ← rng_one (f l) rfl]
  exact rng_congr _ fun k => by omega

/-- The same as it is stored. -/
theorem suffix_stored_at (hv : ∀ (n : Fin 128) (l : Fin 256), v (ix2 n l) = f l n) (n : Fin 128) (l : Fin 256) :
    k0_pay13 (F := Ideal) (k0_pay8 k0_pay3 (k0_pay4 v) k0_pay6 k0_pay7) (ix2 n l) = rng (f l) n (n.val / 16 * 16 + 16) := by
  pointwise [k0_pay13]
  exact suffix_at v f hv n l

/-- Of every block of sixteen rows the maximum. -/
theorem block_at (hv : ∀ (n : Fin 128) (l : Fin 256), v (ix2 n l) = f l n) (c : Fin 8) (l : Fin 256) :
    k0_pay14 (F := Ideal) (k0_pay8 k0_pay3 (k0_pay4 v) k0_pay6 k0_pay7) (ix2 c l) = rng (f l) (16 * c) (16 * c + 16) := by
  pointwise [k0_pay14]
  rw [suffix_at v f hv]
  exact rng_congr _ fun k => by simp only; omega

end Cert.Scan

end
-- ==== Proof.Between.lean ====
/-
  The rows `m` of one block `g` of sixteen against the rows `n` of the other blocks: the maximum of the rows between them,
  put together from the rest of `m`'s block, the whole blocks between, and the part of `n`'s block (`between_at`).
-/
module

public import proofs.«01_k».proof.Proof.Scan

@[expose] public section

set_option maxRecDepth 16384

noncomputable section

namespace Cert.Between

open Idealize.ShloMosaic Idealize.ShloMosaic.TcCoe
open Cert.RangeMax Cert.Shift Cert.Scan Cert.KernelIdeal Cert.KernelIdeal.Gen

/-- The block maxima of the blocks after `w`, each joined with those of the blocks before it, moved one block on. -/
def above (w : BitVec 32) (v9 : IVec S8x1 32) (v10 : FVec Ideal S8x256 .f32) : FVec Ideal S8x256 .f32 :=
  concatenate S8x256 0 [⟨S1x256, broadcast S1x256 neg⟩, ⟨S7x256, extractStridedSlice S7x256 ![0, 0]
    (maxDn 8 4 4 neg (maxDn 8 2 6 neg (maxDn 8 1 7 neg
      (select (broadcastTo S8x256 (shapeCast S8x1 (cmpi .sgt v9 (broadcast S8x1 w)) shapeCasts_S8x1_S8x1) broadcasts_S8x1_S8x256)
        v10 (broadcast S8x256 neg))
      slices_S8x256_o0_0_S7x256 concatenates_S1x256_S7x256_S8x256_d0)
      slices_S8x256_o0_0_S6x256 concatenates_S2x256_S6x256_S8x256_d0)
      slices_S8x256_o0_0_S4x256 concatenates_S4x256_S4x256_S8x256_d0) slices_S8x256_o0_0_S7x256⟩] concatenates_S1x256_S7x256_S8x256_d0

/-- The block maxima of the blocks before `w`, each joined with those of the blocks after it, moved one block back. -/
def below (w : BitVec 32) (v9 : IVec S8x1 32) (v10 : FVec Ideal S8x256 .f32) : FVec Ideal S8x256 .f32 :=
  concatenate S8x256 0 [⟨S7x256, extractStridedSlice S7x256 ![1, 0]
    (maxUp 8 4 4 neg (maxUp 8 2 6 neg (maxUp 8 1 7 neg
      (select (broadcastTo S8x256 (shapeCast S8x1 (cmpi .slt v9 (broadcast S8x1 w)) shapeCasts_S8x1_S8x1) broadcasts_S8x1_S8x256)
        v10 (broadcast S8x256 neg))
      slices_S8x256_o1_0_S7x256 concatenates_S7x256_S1x256_S8x256_d0)
      slices_S8x256_o2_0_S6x256 concatenates_S6x256_S2x256_S8x256_d0)
      slices_S8x256_o4_0_S4x256 concatenates_S4x256_S4x256_S8x256_d0) slices_S8x256_o1_0_S7x256⟩,
    ⟨S1x256, broadcast S1x256 neg⟩] concatenates_S7x256_S1x256_S8x256_d0

/-- A block's value at each of its sixteen rows, joined with the row's own value. -/
def spread (b : FVec Ideal S8x256 .f32) (v : FVec Ideal S128x256 .f32) : FVec Ideal S128x256 .f32 :=
  maximumf (shapeCast S128x256 (broadcastTo S8x16x256 (shapeCast S8x1x256 (shapeCast S8x1x256 b shapeCasts_S8x256_S8x1x256)
    shapeCasts_S8x1x256_S8x1x256) broadcasts_S8x1x256_S8x16x256) shapeCasts_S8x16x256_S128x256) v

/-- The sixteen rows of the block against all the rows: `a` joined with `a'` for the rows before the block, else `b` with `b'`. -/
def against (w : BitVec 32) (v13 : IVec S1x128x1 32) (a b : FVec Ideal S16x256 .f32) (a' b' : FVec Ideal S128x256 .f32) :
    FVec Ideal S16x128x256 .f32 :=
  select (broadcastTo S16x128x256 (shapeCast S1x128x1 (cmpi .slt v13 (broadcast S1x128x1 (Scalar.muli w 16#32)))
    shapeCasts_S1x128x1_S1x128x1) broadcasts_S1x128x1_S16x128x256)
    (maximumf (broadcastTo S16x128x256 (shapeCast S16x1x256 a shapeCasts_S16x256_S16x1x256) broadcasts_S16x1x256_S16x128x256)
      (broadcastTo S16x128x256 (shapeCast S1x128x256 a' shapeCasts_S128x256_S1x128x256) broadcasts_S1x128x256_S16x128x256))
    (maximumf (broadcastTo S16x128x256 (shapeCast S16x1x256 b shapeCasts_S16x256_S16x1x256) broadcasts_S16x1x256_S16x128x256)
      (broadcastTo S16x128x256 (shapeCast S1x128x256 b' shapeCasts_S128x256_S1x128x256) broadcasts_S1x128x256_S16x128x256))

/-- The rows of block `w` against the rows of the other blocks, of the prefix maxima `v11`, the suffix maxima `v12`, the
    block maxima `v10`, and the block's own rows `p` of `v11` and `s` of `v12`. -/
def between (w : BitVec 32) (v9 : IVec S8x1 32) (v10 : FVec Ideal S8x256 .f32) (v11 v12 : FVec Ideal S128x256 .f32)
    (v13 : IVec S1x128x1 32) (s p : FVec Ideal S16x256 .f32) : FVec Ideal S16x128x256 .f32 :=
  against w v13 p s (spread (below w v9 v10) v12) (spread (above w v9 v10) v11)

variable {g : ℕ} (hg : g < 8) {v9 : IVec S8x1 32} (h9 : ∀ c : Fin 8, v9 (ix2 c 0) = BitVec.ofNat 32 c)
  {v10 : FVec Ideal S8x256 .f32} {v11 v12 : FVec Ideal S128x256 .f32} {f : Fin 256 → ℕ → EReal}
  (h10 : ∀ (c : Fin 8) (l : Fin 256), v10 (ix2 c l) = rng (f l) (16 * c) (16 * c + 16))

include hg h9 h10

/-- `above` of block `c` is the maximum of the blocks after `g` and before `c`. -/
theorem above_at (c : Fin 8) (l : Fin 256) :
    above (BitVec.ofNat 32 g) v9 v10 (ix2 c l) = rng (f l) (16 * (g + 1)) (16 * c) := by
  pointwise [above]
  split
  · next h =>
    rw [Consts.ofBits_bot, rng_empty _ (by omega)]
  · next h =>
    refine maxDn_at Consts.scalar_bot _ f (fun c => max (16 * (g + 1)) (16 * (c + 1 - 4))) (fun c => 16 * c + 16) ?_ _ l _ _
      fun k => by simp only; omega
    intro c l
    refine maxDn_at Consts.scalar_bot _ f (fun c => max (16 * (g + 1)) (16 * (c + 1 - 2))) (fun c => 16 * c + 16) ?_ _ l _ _
      fun k => by omega
    intro c l
    refine maxDn_at Consts.scalar_bot _ f (fun c => max (16 * (g + 1)) (16 * c)) (fun c => 16 * c + 16) ?_ _ l _ _
      fun k => by omega
    intro c l
    pointwise [h9, h10]
    simp (disch := omega) only [hlo_ix]
    split
    · exact rng_congr _ fun k => by omega
    · rw [Consts.ofBits_bot, rng_empty _ (by omega)]

/-- `below` of block `c` is the maximum of the blocks after `c` and before `g`. -/
theorem below_at (c : Fin 8) (l : Fin 256) :
    below (BitVec.ofNat 32 g) v9 v10 (ix2 c l) = rng (f l) (16 * (c + 1)) (16 * g) := by
  pointwise [below]
  split
  · next h =>
    refine maxUp_at Consts.scalar_bot _ (by decide) f (fun c => 16 * c) (fun c => min (16 * g) (16 * (c + 4))) ?_ _ l _ _
      fun k => by simp only; omega
    intro c l
    refine maxUp_at Consts.scalar_bot _ (by decide) f (fun c => 16 * c) (fun c => min (16 * g) (16 * (c + 2))) ?_ _ l _ _
      fun k => by omega
    intro c l
    refine maxUp_at Consts.scalar_bot _ (by decide) f (fun c => 16 * c) (fun c => min (16 * g) (16 * (c + 1))) ?_ _ l _ _
      fun k => by omega
    intro c l
    pointwise [h9, h10]
    simp (disch := omega) only [hlo_ix]
    split
    · exact rng_congr _ fun k => by omega
    · rw [Consts.ofBits_bot, rng_empty _ (by omega)]
  · next h =>
    rw [Consts.ofBits_bot, rng_empty _ (by omega)]

/-- The row `i` of block `g` against a row `n` of another block: the maximum of the rows from the one to the other. -/
theorem between_at {v13 : IVec S1x128x1 32} (h13 : ∀ n : Fin 128, v13 (ix3 0 n 0) = BitVec.ofNat 32 n)
    (h11 : ∀ (n : Fin 128) (l : Fin 256), v11 (ix2 n l) = rng (f l) (n.val / 16 * 16) (n + 1))
    (h12 : ∀ (n : Fin 128) (l : Fin 256), v12 (ix2 n l) = rng (f l) n (n.val / 16 * 16 + 16))
    {s p : FVec Ideal S16x256 .f32}
    (hs : ∀ (i : Fin 16) (l : Fin 256), s (ix2 i l) = rng (f l) (16 * g + i) (16 * g + 16))
    (hp : ∀ (i : Fin 16) (l : Fin 256), p (ix2 i l) = rng (f l) (16 * g) (16 * g + i + 1))
    (i : Fin 16) (n : Fin 128) (l : Fin 256) (hn : n.val / 16 ≠ g) :
    between (BitVec.ofNat 32 g) v9 v10 v11 v12 v13 s p (ix3 i n l)
      = rng (f l) (min (16 * g + i) n) (max (16 * g + i) n + 1) := by
  have hw : Scalar.muli (BitVec.ofNat 32 g) 16#32 = BitVec.ofNat 32 (16 * g) := by
    rw [Nat.mul_comm]
    exact (BitVec.ofNat_mul ..).symm
  pointwise [between, against, spread, h13, hw]
  simp (disch := omega) only [hlo_ix]
  split
  · next h =>
    rw [hp, below_at hg h9 h10, h12, join (f l) (c := n) (d := 16 * g) fun k => by simp only; omega]
    exact join _ fun k => by omega
  · next h =>
    rw [hs, above_at hg h9 h10, h11, join (f l) (c := 16 * (g + 1)) (d := n + 1) fun k => by simp only; omega]
    exact join _ fun k => by omega

end Cert.Between

end
-- ==== Proof.Within.lean ====
/-
  The rows of one block of sixteen against each other: the maximum of the rows between two of them (`within_at`), by
  doubling steps from each row forward and from each row back.
-/
module

public import proofs.«01_k».proof.Proof.Scan

@[expose] public section

set_option maxRecDepth 16384

noncomputable section

namespace Cert.Within

open Idealize.ShloMosaic Idealize.ShloMosaic.TcCoe
open Cert.RangeMax Cert.Shift Cert.Scan Cert.KernelIdeal Cert.KernelIdeal.Gen

/-- The sixteen rows in each of sixteen planes, those outside the mask being `-∞`. -/
def start (mask : IVec S16x16x1 1) (x : FVec Ideal S16x256 .f32) : FVec Ideal S16x16x256 .f32 :=
  select (broadcastTo S16x16x256 (shapeCast S16x16x1 mask shapeCasts_S16x16x1_S16x16x1) broadcasts_S16x16x1_S16x16x256)
    (broadcastTo S16x16x256 (shapeCast S1x16x256 (shapeCast S1x16x256 x shapeCasts_S16x256_S1x16x256)
      shapeCasts_S1x16x256_S1x16x256) broadcasts_S1x16x256_S16x16x256)
    (broadcast S16x16x256 neg)

/-- In plane `i` the running maximum from row `i` on. -/
def forth (x : FVec Ideal S16x256 .f32) : FVec Ideal S16x16x256 .f32 :=
  maxDn3 16 8 8 neg (maxDn3 16 4 12 neg (maxDn3 16 2 14 neg (maxDn3 16 1 15 neg (start k0_pay21 x)
    slices_S16x16x256_o0_0_0_S16x15x256 concatenates_S16x1x256_S16x15x256_S16x16x256_d1)
    slices_S16x16x256_o0_0_0_S16x14x256 concatenates_S16x2x256_S16x14x256_S16x16x256_d1)
    slices_S16x16x256_o0_0_0_S16x12x256 concatenates_S16x4x256_S16x12x256_S16x16x256_d1)
    slices_S16x16x256_o0_0_0_S16x8x256 concatenates_S16x8x256_S16x8x256_S16x16x256_d1

/-- In plane `i` the running maximum from row `i` back. -/
def back (x : FVec Ideal S16x256 .f32) : FVec Ideal S16x16x256 .f32 :=
  maxUp3 16 8 8 neg (maxUp3 16 4 12 neg (maxUp3 16 2 14 neg (maxUp3 16 1 15 neg (start k0_pay22 x)
    slices_S16x16x256_o0_1_0_S16x15x256 concatenates_S16x15x256_S16x1x256_S16x16x256_d1)
    slices_S16x16x256_o0_2_0_S16x14x256 concatenates_S16x14x256_S16x2x256_S16x16x256_d1)
    slices_S16x16x256_o0_4_0_S16x12x256 concatenates_S16x12x256_S16x4x256_S16x16x256_d1)
    slices_S16x16x256_o0_8_0_S16x8x256 concatenates_S16x8x256_S16x8x256_S16x16x256_d1

/-- The rows of the block against each other, repeated for each of the eight blocks. -/
def within (x : FVec Ideal S16x256 .f32) : FVec Ideal S16x128x256 .f32 :=
  shapeCast S16x128x256 (broadcastTo S16x8x16x256 (shapeCast S16x1x16x256 (shapeCast S16x1x16x256
    (select (broadcastTo S16x16x256 (shapeCast S16x16x1 k0_pay21 shapeCasts_S16x16x1_S16x16x1) broadcasts_S16x16x1_S16x16x256)
      (forth x) (back x)) shapeCasts_S16x16x256_S16x1x16x256)
    shapeCasts_S16x1x16x256_S16x1x16x256) broadcasts_S16x1x16x256_S16x8x16x256) shapeCasts_S16x8x16x256_S16x128x256

variable {x : FVec Ideal S16x256 .f32} {f : Fin 256 → ℕ → EReal} {B : ℕ}
  (hx : ∀ (i : Fin 16) (l : Fin 256), x (ix2 i l) = f l (B + i))

include hx

/-- From row `i` forward to row `j`. -/
theorem forth_at (i j : Fin 16) (l : Fin 256) : forth x (ix3 i j l) = rng (f l) (B + i) (B + j + 1) := by
  refine maxDn3_at Consts.scalar_bot _ f (fun i j => max (B + i) (B + (j + 1 - 8))) (fun _ j => B + j + 1) ?_ i j l _ _
    fun k => by omega
  intro i j l
  refine maxDn3_at Consts.scalar_bot _ f (fun i j => max (B + i) (B + (j + 1 - 4))) (fun _ j => B + j + 1) ?_ i j l _ _
    fun k => by omega
  intro i j l
  refine maxDn3_at Consts.scalar_bot _ f (fun i j => max (B + i) (B + (j + 1 - 2))) (fun _ j => B + j + 1) ?_ i j l _ _
    fun k => by omega
  intro i j l
  refine maxDn3_at Consts.scalar_bot _ f (fun i j => max (B + i) (B + j)) (fun _ j => B + j + 1) ?_ i j l _ _
    fun k => by omega
  intro i j l
  pointwise [start, k0_pay21]
  simp (disch := omega) only [hlo_ix]
  split
  · rw [hx, ← rng_one (f l) rfl]
    exact rng_congr _ fun k => by omega
  · rw [Consts.ofBits_bot, rng_empty _ (by omega)]

/-- From row `i` back to row `j`. -/
theorem back_at (i j : Fin 16) (l : Fin 256) : back x (ix3 i j l) = rng (f l) (B + j) (B + i + 1) := by
  refine maxUp3_at Consts.scalar_bot _ (by decide) f (fun _ j => B + j) (fun i j => min (B + i + 1) (B + j + 8)) ?_ i j l _ _
    fun k => by omega
  intro i j l
  refine maxUp3_at Consts.scalar_bot _ (by decide) f (fun _ j => B + j) (fun i j => min (B + i + 1) (B + j + 4)) ?_ i j l _ _
    fun k => by omega
  intro i j l
  refine maxUp3_at Consts.scalar_bot _ (by decide) f (fun _ j => B + j) (fun i j => min (B + i + 1) (B + j + 2)) ?_ i j l _ _
    fun k => by omega
  intro i j l
  refine maxUp3_at Consts.scalar_bot _ (by decide) f (fun _ j => B + j) (fun i j => min (B + i + 1) (B + j + 1)) ?_ i j l _ _
    fun k => by omega
  intro i j l
  pointwise [start, k0_pay22]
  simp (disch := omega) only [hlo_ix]
  split
  · rw [hx, ← rng_one (f l) rfl]
    exact rng_congr _ fun k => by omega
  · rw [Consts.ofBits_bot, rng_empty _ (by omega)]

/-- The row `i` of the block against its row `n % 16`: the maximum of the rows from the one to the other. -/
theorem within_at (i : Fin 16) (n : Fin 128) (l : Fin 256) :
    within x (ix3 i n l) = rng (f l) (B + min i.val (n % 16)) (B + max i.val (n % 16) + 1) := by
  pointwise [within, k0_pay21]
  simp (disch := omega) only [hlo_ix]
  split
  · next h =>
    rw [forth_at hx]
    exact rng_congr _ fun k => by simp only; omega
  · next h =>
    rw [back_at hx]
    exact rng_congr _ fun k => by simp only; omega

end Cert.Within

end
-- ==== Proof.Context.lean ====
/-
  The context of one grid point: of each of its 32 rows `m` and every row `n` the maximum of the rows from the one to the
  other, in two groups of sixteen rows (`group_at`), times the context's part of the weights (`project_at`).
-/
module

public import proofs.«01_k».proof.Proof.Between
public import proofs.«01_k».proof.Proof.Within

@[expose] public section

set_option maxRecDepth 16384

noncomputable section

namespace Cert.Context

open Idealize.ShloMosaic Idealize.ShloMosaic.TcCoe
open Cert.RangeMax Cert.Shift Cert.Scan Cert.Between Cert.Within Cert.KernelIdeal Cert.KernelIdeal.Gen

/-- The sixteen rows of block `w` against all the rows: those of the block itself by `within`, the others by `between`. -/
def group (w : BitVec 32) (v9 : IVec S8x1 32) (v10 : FVec Ideal S8x256 .f32) (v11 v12 : FVec Ideal S128x256 .f32)
    (v13 : IVec S1x128x1 32) (s p x : FVec Ideal S16x256 .f32) : FVec Ideal S16x128x256 .f32 :=
  select (broadcastTo S16x128x256 (shapeCast S1x128x1 (cmpi .eq (k0_pay20 k0_pay17 k0_pay18 k0_pay19) (broadcast S1x128x1 w))
    shapeCasts_S1x128x1_S1x128x1) broadcasts_S1x128x1_S16x128x256)
    (within x) (between w v9 v10 v11 v12 v13 s p)

/-- Two groups of sixteen rows, times the context's part of the weights. -/
def project (a b : FVec Ideal S16x128x256 .f32) (w3 : FVec Ideal S256x256 .f32) : FVec Ideal S32x128x256 .f32 :=
  shapeCast S32x128x256 (matmul dot_S4096x256_S256x256_S4096x256_1_0_0_1_n_n none
    (shapeCast S4096x256 (concatenate S32x128x256 0 [⟨S16x128x256, a⟩, ⟨S16x128x256, b⟩]
      concatenates_S16x128x256_S16x128x256_S32x128x256_d0) shapeCasts_S32x128x256_S4096x256)
    (shapeCast S256x256 w3 shapeCasts_S256x256_S256x256) (constant S4096x256 .f32 0x00000000#32)) shapeCasts_S4096x256_S32x128x256

section Steps

variable (w arg1 : BitVec 32) (v9 : IVec S8x1 32) (v10 : FVec Ideal S8x256 .f32) (v11 v12 : FVec Ideal S128x256 .f32)
  (v13 : IVec S1x128x1 32) (s p : FVec Ideal S16x256 .f32) (v5 : FVec Ideal S32x256 .f32)

/-- The kernel's first sixteen rows are a group. -/
theorem first_eq :
    k0_pay30 (k0_pay20 k0_pay17 k0_pay18 k0_pay19) k0_pay21 (Scalar.addi (Scalar.muli arg1 2#32) 0#32)
      (k0_pay26 v11 v12 v13 (Scalar.addi (Scalar.muli arg1 2#32) 0#32) (k0_pay23 arg1 v9 v10) k0_pay24 (k0_pay25 arg1 v9 v10) s p)
      (k0_pay28 v5 k0_pay21) (k0_pay29 v5 k0_pay22) neg
    = group (Scalar.addi (Scalar.muli arg1 2#32) 0#32) v9 v10 v11 v12 v13 s p (k0_pay27 v5) := rfl

/-- Its last sixteen rows are one too; the product with the weights follows. -/
theorem last_eq (a : FVec Ideal S16x128x256 .f32) (w3 : FVec Ideal S256x256 .f32) :
    k0_pay39 (k0_pay20 k0_pay17 k0_pay18 k0_pay19) k0_pay21 a (Scalar.addi (Scalar.muli arg1 2#32) 1#32)
      (k0_pay34 v13 (Scalar.addi (Scalar.muli arg1 2#32) 1#32) (k0_pay32 v10 v11 neg (k0_pay31 arg1 v9))
        (k0_pay33 v9 v10 v12 (Scalar.addi (Scalar.muli arg1 2#32) 1#32)) s p)
      (k0_pay36 v5 k0_pay22) (k0_pay37 v5 k0_pay21) (k0_pay38 v5 k0_pay22) w3
    = project a (group (Scalar.addi (Scalar.muli arg1 2#32) 1#32) v9 v10 v11 v12 v13 s p (k0_pay35 v5)) w3 := rfl

end Steps

/-- The block of a row. -/
theorem block_of (n : Fin 128) : k0_pay20 k0_pay17 k0_pay18 k0_pay19 (ix3 0 n 0) = BitVec.ofNat 32 (n / 16) := by
  pointwise [k0_pay20, k0_pay17, k0_pay18, k0_pay19]
  revert n
  decide

/-- The row `i` of block `g` against any row `n`: the maximum of the rows from the one to the other. -/
theorem group_at {g : ℕ} (hg : g < 8) {v9 : IVec S8x1 32} (h9 : ∀ c : Fin 8, v9 (ix2 c 0) = BitVec.ofNat 32 c)
    {v10 : FVec Ideal S8x256 .f32} {v11 v12 : FVec Ideal S128x256 .f32} {f : Fin 256 → ℕ → EReal}
    (h10 : ∀ (c : Fin 8) (l : Fin 256), v10 (ix2 c l) = rng (f l) (16 * c) (16 * c + 16))
    {v13 : IVec S1x128x1 32} (h13 : ∀ n : Fin 128, v13 (ix3 0 n 0) = BitVec.ofNat 32 n)
    (h11 : ∀ (n : Fin 128) (l : Fin 256), v11 (ix2 n l) = rng (f l) (n.val / 16 * 16) (n + 1))
    (h12 : ∀ (n : Fin 128) (l : Fin 256), v12 (ix2 n l) = rng (f l) n (n.val / 16 * 16 + 16))
    {s p x : FVec Ideal S16x256 .f32}
    (hs : ∀ (i : Fin 16) (l : Fin 256), s (ix2 i l) = rng (f l) (16 * g + i) (16 * g + 16))
    (hp : ∀ (i : Fin 16) (l : Fin 256), p (ix2 i l) = rng (f l) (16 * g) (16 * g + i + 1))
    (hx : ∀ (i : Fin 16) (l : Fin 256), x (ix2 i l) = f l (16 * g + i))
    (i : Fin 16) (n : Fin 128) (l : Fin 256) :
    group (BitVec.ofNat 32 g) v9 v10 v11 v12 v13 s p x (ix3 i n l)
      = rng (f l) (min (16 * g + i) n) (max (16 * g + i) n + 1) := by
  pointwise [group, block_of]
  simp (disch := omega) only [hlo_ix]
  split
  · next h =>
    rw [within_at hx]
    exact rng_congr _ fun k => by omega
  · next h =>
    exact between_at hg h9 h10 h13 h11 h12 hs hp i n l h

/-- The context of the point's row `r` and row `n` times the weights, entry `h`. -/
theorem project_at {j : ℕ} {a b : FVec Ideal S16x128x256 .f32} {f : Fin 256 → ℕ → EReal}
    (ha : ∀ (i : Fin 16) (n : Fin 128) (l : Fin 256),
      a (ix3 i n l) = rng (f l) (min (16 * (2 * j) + i) n) (max (16 * (2 * j) + i) n + 1))
    (hb : ∀ (i : Fin 16) (n : Fin 128) (l : Fin 256),
      b (ix3 i n l) = rng (f l) (min (16 * (2 * j + 1) + i) n) (max (16 * (2 * j + 1) + i) n + 1))
    (w3 : FVec Ideal S256x256 .f32) (r : Fin 32) (n : Fin 128) (h : Fin 256) :
    project a b w3 (ix3 r n h)
      = ∑ l : Fin 256, rng (f l) (min (32 * j + r) n) (max (32 * j + r) n + 1) * w3 (ix2 l h) := by
  pointwise [project]
  refine Finset.sum_congr rfl fun l _ => ?_
  congr 1
  split
  · rw [ha]
    exact rng_congr _ fun k => by simp only; omega
  · rw [hb]
    exact rng_congr _ fun k => by simp only; omega

end Cert.Context

end
-- ==== Proof.Group.lean ====
/-
  The context's part of one grid point's output, from the kept prefix, suffix and block maxima and the point's own 32 rows of
  `x` (`context_at`), in the words of the kernel.
-/
module

public import proofs.«01_k».proof.Proof.Context
public import proofs.«01_k».proof.Proof.Gen.KernelIdeal.Value

@[expose] public section

set_option maxRecDepth 16384

noncomputable section

namespace Cert.Group

open Idealize.ShloMosaic Idealize.ShloMosaic.TcCoe
open Cert.RangeMax Cert.Context Cert.KernelIdeal Cert.KernelIdeal.Gen Cert.KernelIdeal.Value

/-- The number of the point's first group of rows. -/
theorem word_first : ∀ t : Fin cfg0.N, Scalar.addi (Scalar.muli (BitVec.ofNat 32 (grid0.coords t 1)) 2#32) 0#32
    = BitVec.ofNat 32 (2 * (t.val % 4)) :=
  (by decide +kernel : ∀ t : Fin grid0.N, _)

/-- The number of its second. -/
theorem word_last : ∀ t : Fin cfg0.N, Scalar.addi (Scalar.muli (BitVec.ofNat 32 (grid0.coords t 1)) 2#32) 1#32
    = BitVec.ofNat 32 (2 * (t.val % 4) + 1) :=
  (by decide +kernel : ∀ t : Fin grid0.N, _)

/-- The point's rows, of the block that it was given. -/
theorem rows_first (x : FVec Ideal S1x32x256 .f32) (i : Fin 16) (l : Fin 256) :
    k0_pay27 (k0_pay12 x) (ix2 i l) = x (ix3 0 ⟨i.val, by omega⟩ l) := by
  pointwise [k0_pay27, k0_pay12]

theorem rows_last (x : FVec Ideal S1x32x256 .f32) (i : Fin 16) (l : Fin 256) :
    k0_pay35 (k0_pay12 x) (ix2 i l) = x (ix3 0 ⟨16 + i.val, by omega⟩ l) := by
  pointwise [k0_pay35, k0_pay12]

/-- The context's part of the linear layer for the point's row `r`, any row `n` and output `h`. -/
theorem context_at (t : Fin cfg0.N) {f : Fin 256 → ℕ → EReal} {P S : FVec Ideal S128x256 .f32} {G : FVec Ideal S8x256 .f32}
    {X : FVec Ideal S1x32x256 .f32} {v9 : IVec S8x1 32} {v13 : IVec S1x128x1 32} {sA pA sB pB : FVec Ideal S16x256 .f32}
    (h9 : ∀ c : Fin 8, v9 (ix2 c 0) = BitVec.ofNat 32 c) (h13 : ∀ n : Fin 128, v13 (ix3 0 n 0) = BitVec.ofNat 32 n)
    (hP : ∀ (n : Fin 128) (l : Fin 256), P (ix2 n l) = rng (f l) (n.val / 16 * 16) (n + 1))
    (hS : ∀ (n : Fin 128) (l : Fin 256), S (ix2 n l) = rng (f l) n (n.val / 16 * 16 + 16))
    (hG : ∀ (c : Fin 8) (l : Fin 256), G (ix2 c l) = rng (f l) (16 * c) (16 * c + 16))
    (hX : ∀ (r : Fin 32) (l : Fin 256), X (ix3 0 r l) = f l (32 * (t.val % 4) + r))
    (hsA : ∀ (i : Fin 16) (l : Fin 256), sA (ix2 i l) = S (ix2 ⟨32 * (t.val % 4) + 0 + i, by omega⟩ l))
    (hpA : ∀ (i : Fin 16) (l : Fin 256), pA (ix2 i l) = P (ix2 ⟨32 * (t.val % 4) + 0 + i, by omega⟩ l))
    (hsB : ∀ (i : Fin 16) (l : Fin 256), sB (ix2 i l) = S (ix2 ⟨32 * (t.val % 4) + 16 + i, by omega⟩ l))
    (hpB : ∀ (i : Fin 16) (l : Fin 256), pB (ix2 i l) = P (ix2 ⟨32 * (t.val % 4) + 16 + i, by omega⟩ l))
    (w3 : FVec Ideal S256x256 .f32) (r : Fin 32) (n : Fin 128) (h : Fin 256) :
    project
      (group (Scalar.addi (Scalar.muli (BitVec.ofNat 32 (grid0.coords t 1)) 2#32) 0#32) v9 G P S v13 sA pA (k0_pay27 (k0_pay12 X)))
      (group (Scalar.addi (Scalar.muli (BitVec.ofNat 32 (grid0.coords t 1)) 2#32) 1#32) v9 G P S v13 sB pB (k0_pay35 (k0_pay12 X)))
      w3 (ix3 r n h)
    = ∑ l : Fin 256, rng (f l) (min (32 * (t.val % 4) + r) n) (max (32 * (t.val % 4) + r) n + 1) * w3 (ix2 l h) := by
  rw [word_first, word_last]
  refine project_at (fun i n l => ?_) (fun i n l => ?_) w3 r n h
  · refine group_at (by omega) h9 hG h13 hP hS (fun i l => ?_) (fun i l => ?_) (fun i l => ?_) i n l
    · rw [hsA, hS]
      exact rng_congr _ fun k => by simp only; omega
    · rw [hpA, hP]
      exact rng_congr _ fun k => by simp only; omega
    · rw [rows_first, hX]
      congr 1
      simp only
      omega
  · refine group_at (by omega) h9 hG h13 hP hS (fun i l => ?_) (fun i l => ?_) (fun i l => ?_) i n l
    · rw [hsB, hS]
      exact rng_congr _ fun k => by simp only; omega
    · rw [hpB, hP]
      exact rng_congr _ fun k => by simp only; omega
    · rw [rows_last, hX]
      congr 1
      simp only
      omega

end Cert.Group

end
-- ==== Proof.Kept.lean ====
/-
  What the kernel keeps between the grid points of a batch element: the six arrays that its first point computes, the same
  through the batch element's other points.
-/
module

public import proofs.«01_k».proof.Proof.Gen.KernelIdeal.Value
public import Idealize.ShloMosaic.Lib.Pipeline.ValueKit
public import Idealize.ShloMosaic.Lib.Pipeline.ValueKit.Held

@[expose] public section

set_option maxRecDepth 16384

noncomputable section

namespace Cert.Kept

open Idealize.ShloMosaic Idealize.ShloMosaic.TcCoe
open Cert.KernelIdeal Cert.KernelIdeal.Gen Cert.KernelIdeal.Value

variable (m : (ℓ : Loc nD τ sig) → Buf (Elt Ideal) ℓ) (c : Dev nD)

/-- The part of the linear layer from `y`, as the first point computes it. -/
abbrev ofY (t : Fin cfg0.N) : FVec Ideal S128x256 .f32 := k0_pay2 (k0_pay11 (iblk m c 2 t)) (iblk m c 4 t) (iblk m c 8 t)

/-- The prefix maxima. -/
abbrev pre (t : Fin cfg0.N) : FVec Ideal S128x256 .f32 := k0_pay9 k0_pay3 (k0_pay5 (k0_pay10 (iblk m c 0 t)))

/-- The suffix maxima as the kernel computes them. -/
abbrev suf0 (t : Fin cfg0.N) : FVec Ideal S128x256 .f32 := k0_pay8 k0_pay3 (k0_pay4 (k0_pay10 (iblk m c 0 t))) k0_pay6 k0_pay7

/-- The suffix maxima. -/
abbrev suf (t : Fin cfg0.N) : FVec Ideal S128x256 .f32 := k0_pay13 (suf0 m c t)

/-- The block maxima. -/
abbrev agg (t : Fin cfg0.N) : FVec Ideal S8x256 .f32 := k0_pay14 (suf0 m c t)

/-- The pairings. -/
abbrev pair (t : Fin cfg0.N) : FVec Ideal S128x4x128 .f32 := k0_pay15 (iblk m c 0 t) (iblk m c 2 t) (iblk m c 6 t)

/-- The part of the linear layer from `x`. -/
abbrev ofX (t : Fin cfg0.N) : FVec Ideal S128x256 .f32 := k0_pay16 (iblk m c 0 t) (iblk m c 3 t)

theorem first_ofY (t : Fin cfg0.N) (h0 : t.val % 4 = 0) : (outsAt0 m c t.val t.isLt).2.1 = ofY m c t := by
  rw [outsAt0_A m c t h0]
  dsimp only
  unfold sout0_A_0 kernelRun0_A
  dsimp only
  rw [View.read_writes_junk_eq_canon]
  refine (View.canon_cons_unit_lit _ _ [] (by decide)).trans ?_
  show k0_pay2 (F := Ideal) (k0_pay11 _) _ _ = _
  simp (disch := decide) only [View.readAt_eq_ld, View.ld_unit_lit', Memref.IsWhole.read_unread]

theorem first_pre (t : Fin cfg0.N) (h0 : t.val % 4 = 0) : (outsAt0 m c t.val t.isLt).2.2.1 = pre m c t := by
  rw [outsAt0_A m c t h0]
  dsimp only
  unfold sout0_A_1 kernelRun0_A
  dsimp only
  rw [View.read_writes_junk_eq_canon]
  refine (View.canon_cons_unit_lit _ _ [] (by decide)).trans ?_
  show k0_pay9 (F := Ideal) k0_pay3 (k0_pay5 (k0_pay10 _)) = _
  simp (disch := decide) only [View.readAt_eq_ld, View.ld_unit_lit', Memref.IsWhole.read_unread]

theorem first_suf (t : Fin cfg0.N) (h0 : t.val % 4 = 0) : (outsAt0 m c t.val t.isLt).2.2.2.1 = suf m c t := by
  rw [outsAt0_A m c t h0]
  dsimp only
  unfold sout0_A_2 kernelRun0_A
  dsimp only
  rw [View.read_writes_junk_eq_canon]
  refine (View.canon_cons_unit_lit _ _ [] (by decide)).trans ?_
  show k0_pay13 (F := Ideal) (k0_pay8 k0_pay3 (k0_pay4 (k0_pay10 _)) k0_pay6 k0_pay7) = _
  simp (disch := decide) only [View.readAt_eq_ld, View.ld_unit_lit', Memref.IsWhole.read_unread]

theorem first_agg (t : Fin cfg0.N) (h0 : t.val % 4 = 0) : (outsAt0 m c t.val t.isLt).2.2.2.2.1 = agg m c t := by
  rw [outsAt0_A m c t h0]
  dsimp only
  unfold sout0_A_3 kernelRun0_A
  dsimp only
  rw [View.read_writes_junk_eq_canon]
  refine (View.canon_cons_unit_lit _ _ [] (by decide)).trans ?_
  show k0_pay14 (F := Ideal) (k0_pay8 k0_pay3 (k0_pay4 (k0_pay10 _)) k0_pay6 k0_pay7) = _
  simp (disch := decide) only [View.readAt_eq_ld, View.ld_unit_lit', Memref.IsWhole.read_unread]

theorem first_pair (t : Fin cfg0.N) (h0 : t.val % 4 = 0) : (outsAt0 m c t.val t.isLt).2.2.2.2.2.1 = pair m c t := by
  rw [outsAt0_A m c t h0]
  dsimp only
  unfold sout0_A_4 kernelRun0_A
  dsimp only
  rw [View.read_writes_junk_eq_canon]
  refine (View.canon_cons_unit_lit _ _ [] (by decide)).trans ?_
  show k0_pay15 (F := Ideal) _ _ _ = _
  simp (disch := decide) only [View.readAt_eq_ld, View.ld_unit_lit', Memref.IsWhole.read_unread]

theorem first_ofX (t : Fin cfg0.N) (h0 : t.val % 4 = 0) : (outsAt0 m c t.val t.isLt).2.2.2.2.2.2 = ofX m c t := by
  rw [outsAt0_A m c t h0]
  dsimp only
  unfold sout0_A_5 kernelRun0_A
  dsimp only
  rw [View.read_writes_junk_eq_canon]
  refine (View.canon_cons_unit_lit _ _ [] (by decide)).trans ?_
  show k0_pay16 (F := Ideal) _ _ = _
  simp (disch := decide) only [View.readAt_eq_ld, View.ld_unit_lit', Memref.IsWhole.read_unread]

/-- The first point of a batch element. -/
abbrev start (t : Fin cfg0.N) : Fin cfg0.N := ⟨4 * (t.val / 4), Pipeline.run_start_lt t⟩

/-- At every point the kept arrays are what the batch element's first point computed. -/
theorem kept (t : Fin cfg0.N) : (outsAt0 m c t.val t.isLt).2
    = (ofY m c (start t), pre m c (start t), suf m c (start t), agg m c (start t), pair m c (start t), ofX m c (start t)) := by
  refine Pipeline.eq_of_write_hold (fun n h => (outsAt0 m c n h).2) 4
    (fun t => (ofY m c t, pre m c t, suf m c t, agg m c t, pair m c t, ofX m c t)) (fun t h0 => ?_) (fun t h0 => ?_) t
  · exact Prod.ext (first_ofY m c t h0) (Prod.ext (first_pre m c t h0) (Prod.ext (first_suf m c t h0)
      (Prod.ext (first_agg m c t h0) (Prod.ext (first_pair m c t h0) (first_ofX m c t h0)))))
  · rw [outsAt0_B m c t h0]
    rfl

end Cert.Kept

end
-- ==== Proof.Reads.lean ====
/-
  The kernel's reads of the arrays that it keeps: the rows that a grid point reads are the rows of its own 32, counted from
  the point's place in the batch element.
-/
module

public import proofs.«01_k».proof.Proof.Gen.KernelIdeal.Value
public import Idealize.ShloMosaic.Lib.Pipeline.ValueKit
public import Idealize.ShloMosaic.Lib.Pointwise
public import Idealize.ShloMosaic.Lib.Pointwise.IndexVar

@[expose] public section

set_option maxRecDepth 16384

noncomputable section

namespace Cert.Reads

open Idealize.ShloMosaic Idealize.ShloMosaic.TcCoe
open Cert.KernelIdeal Cert.KernelIdeal.Gen Cert.KernelIdeal.Value

/-- Where the point's sixteen rows from row `w` on lie. -/
theorem off1 : ∀ (t : Fin cfg0.N) (w : Fin 17), k0_off1 (grid0.coords t) (BitVec.ofNat 32 w) = ![32 * (t.val % 4) + w, 0] :=
  (by decide +kernel : ∀ (t : Fin grid0.N) (w : Fin 17), _)

/-- Where the point's row `r` of the pairings lies. -/
theorem off2 : ∀ (t : Fin cfg0.N) (r : Fin 32), k0_off2 (grid0.coords t) (BitVec.ofNat 32 r) = ![32 * (t.val % 4) + r, 0, 0] :=
  (by decide +kernel : ∀ (t : Fin grid0.N) (r : Fin 32), _)

/-- Where the point's row `r` lies. -/
theorem off3 : ∀ (t : Fin cfg0.N) (r : Fin 32), k0_off3 (grid0.coords t) (BitVec.ofNat 32 r) = ![32 * (t.val % 4) + r, 0] :=
  (by decide +kernel : ∀ (t : Fin grid0.N) (r : Fin 32), _)

/-- A read of all of an array. -/
theorem whole_at {s : Shape} {v : View sig .tc .vmem s .f32} {buf} {Z : FVec Ideal s .f32} (hZ : View.read (Elt Ideal) v buf = Z)
    {off : Fin s.rank → ℕ} {inb} (h : ∀ a, off a = 0) :
    View.readAt (Elt Ideal) v (Rect.unit off s.size inb).toLoadRect buf = Z := by
  rw [View.readAt_eq_ld, hZ]
  exact View.ld_unit_lit _ _ h

/-- A read of all of an array right after it was filled. -/
theorem filled_at {s : Shape} {v : View sig .tc .vmem s .f32} {Z : FVec Ideal s .f32}
    {off : Fin s.rank → ℕ} {inb} (h : ∀ a, off a = 0) :
    v.readCov (Val := Elt Ideal) [⟨Rect.unit off s.size inb, Z⟩] (Rect.unit off s.size inb).toLoadRect = Z :=
  View.readCov_unit_lit (Val := Elt Ideal) (e := .f32) v inb Z h

/-- What an array holds after it was filled. -/
theorem fill_at {s : Shape} {v : View sig .tc .vmem s .f32} {Z : FVec Ideal s .f32}
    {off : Fin s.rank → ℕ} {inb} (h : ∀ a, off a = 0) :
    View.read (Elt Ideal) v (v.writes (Elt Ideal) v.junk [⟨Rect.unit off s.size inb, Z⟩]) = Z := by
  rw [View.read_writes_junk_eq_canon]
  exact View.canon_cons_unit_lit _ _ [] h

/-- A read of sixteen rows. -/
theorem rows_at {v : View sig .tc .vmem S128x256 .f32} {buf} {Z : FVec Ideal S128x256 .f32} (hZ : View.read (Elt Ideal) v buf = Z)
    (t : Fin cfg0.N) {w : ℕ} (hw : w < 17) {inb} (i : Fin 16) (l : Fin 256) :
    (View.readAt (Elt Ideal) v (Rect.unit (s := S128x256) (k0_off1 (grid0.coords t) (BitVec.ofNat 32 w)) S16x256.size inb).toLoadRect buf
      : FVec Ideal S16x256 .f32) (ix2 i l) = Z (ix2 ⟨32 * (t.val % 4) + w + i, by omega⟩ l) := by
  rw [View.readAt_eq_ld, hZ]
  refine View.ld_unit_apply_of (Val := Elt Ideal) (e := .f32) Z _ _ _ _ _ fun a => ?_
  refine Eq.trans ?_ (congrArg (· + _) (congrFun (off1 t ⟨w, hw⟩) a).symm)
  fin_cases a
  · rfl
  · exact (Nat.zero_add _).symm

/-- A read of one row of the pairings. -/
theorem pair_row {v : View sig .tc .vmem S128x4x128 .f32} {buf} {Z : FVec Ideal S128x4x128 .f32}
    (hZ : View.read (Elt Ideal) v buf = Z) (t : Fin cfg0.N) {r : ℕ} (hr : r < 32) {inb} (k : Fin 4) (n : Fin 128) :
    (View.readAt (Elt Ideal) v (Rect.unit (s := S128x4x128) (k0_off2 (grid0.coords t) (BitVec.ofNat 32 r)) S1x4x128.size inb).toLoadRect buf
      : FVec Ideal S1x4x128 .f32) (ix3 0 k n) = Z (ix3 ⟨32 * (t.val % 4) + r, by omega⟩ k n) := by
  rw [View.readAt_eq_ld, hZ]
  refine View.ld_unit_apply_of (Val := Elt Ideal) (e := .f32) Z _ _ _ _ _ fun a => ?_
  refine Eq.trans ?_ (congrArg (· + _) (congrFun (off2 t ⟨r, hr⟩) a).symm)
  fin_cases a
  · rfl
  · exact (Nat.zero_add _).symm
  · exact (Nat.zero_add _).symm

/-- A read of one row. -/
theorem one_row {v : View sig .tc .vmem S128x256 .f32} {buf} {Z : FVec Ideal S128x256 .f32}
    (hZ : View.read (Elt Ideal) v buf = Z) (t : Fin cfg0.N) {r : ℕ} (hr : r < 32) {inb} (h : Fin 256) :
    (View.readAt (Elt Ideal) v (Rect.unit (s := S128x256) (k0_off3 (grid0.coords t) (BitVec.ofNat 32 r)) S1x256.size inb).toLoadRect buf
      : FVec Ideal S1x256 .f32) (ix2 0 h) = Z (ix2 ⟨32 * (t.val % 4) + r, by omega⟩ h) := by
  rw [View.readAt_eq_ld, hZ]
  refine View.ld_unit_apply_of (Val := Elt Ideal) (e := .f32) Z _ _ _ _ _ fun a => ?_
  refine Eq.trans ?_ (congrArg (· + _) (congrFun (off3 t ⟨r, hr⟩) a).symm)
  fin_cases a
  · rfl
  · exact (Nat.zero_add _).symm

end Cert.Reads

end
-- ==== Proof.Stored.lean ====
/-
  What the first point of a batch element stores in the six kept arrays, in the words that the rest of that point uses.
-/
module

public import proofs.«01_k».proof.Proof.Kept
public import proofs.«01_k».proof.Proof.Reads

@[expose] public section

set_option maxRecDepth 16384

noncomputable section

namespace Cert.Stored

open Idealize.ShloMosaic Idealize.ShloMosaic.TcCoe
open Cert.KernelIdeal Cert.KernelIdeal.Gen Cert.KernelIdeal.Value Cert.Kept Cert.Reads

/-- The store of all of an array. -/
abbrev fill {s : Shape} (off : Fin s.rank → ℕ) (inb : ∀ a, off a + s.size a ≤ s.size a) (w : FVec Ideal s .f32) :
    List (View.Piece (Elt Ideal) s .f32) := [⟨Rect.unit off s.size inb, w⟩]

variable (m : (ℓ : Loc nD τ sig) → Buf (Elt Ideal) ℓ) (c : Dev nD) (t : Fin cfg0.N)

theorem stored_ofY : kernelRun0_A.sl.HS0_1 (F := Ideal) c (ms0_2 t) (hs0_2 t) (ms0_4 t) (hs0_4 t) (ms0_8 t) (hs0_8 t)
    (iblk m c 2 t) (iblk m c 4 t) (iblk m c 8 t)
    = fill (s := S128x256) ![0, 0] (by decide) (ofY m c t) := by
  refine congrArg (fill (s := S128x256) ![0, 0] (by decide)) (?_ : k0_pay2 (F := Ideal) (k0_pay11 _) _ _ = _)
  simp (disch := decide) only [View.readAt_eq_ld, View.ld_unit_lit', Memref.IsWhole.read_unread]

theorem stored_pre : kernelRun0_A.sl.HS1_1 (F := Ideal) c (ms0_0 t) (hs0_0 t) (iblk m c 0 t)
    = fill (s := S128x256) ![0, 0] (by decide) (pre m c t) := by
  refine congrArg (fill (s := S128x256) ![0, 0] (by decide)) (?_ : k0_pay9 (F := Ideal) k0_pay3 (k0_pay5 (k0_pay10 _)) = _)
  simp (disch := decide) only [View.readAt_eq_ld, View.ld_unit_lit', Memref.IsWhole.read_unread]

theorem stored_suf : kernelRun0_A.sl.HS2_1 (F := Ideal) c (ms0_0 t) (hs0_0 t) (iblk m c 0 t)
    = fill (s := S128x256) ![0, 0] (by decide) (suf m c t) := by
  refine congrArg (fill (s := S128x256) ![0, 0] (by decide)) (?_ : k0_pay13 (F := Ideal) (k0_pay8 k0_pay3 (k0_pay4 (k0_pay10 _)) k0_pay6 k0_pay7) = _)
  simp (disch := decide) only [View.readAt_eq_ld, View.ld_unit_lit', Memref.IsWhole.read_unread]

theorem stored_agg : kernelRun0_A.sl.HS3_1 (F := Ideal) c (ms0_0 t) (hs0_0 t) (iblk m c 0 t)
    = fill (s := S8x256) ![0, 0] (by decide) (agg m c t) := by
  refine congrArg (fill (s := S8x256) ![0, 0] (by decide)) (?_ : k0_pay14 (F := Ideal) (k0_pay8 k0_pay3 (k0_pay4 (k0_pay10 _)) k0_pay6 k0_pay7) = _)
  simp (disch := decide) only [View.readAt_eq_ld, View.ld_unit_lit', Memref.IsWhole.read_unread]

theorem stored_pair : kernelRun0_A.sl.HS4_1 (F := Ideal) c (ms0_0 t) (hs0_0 t) (ms0_2 t) (hs0_2 t) (ms0_6 t) (hs0_6 t)
    (iblk m c 0 t) (iblk m c 2 t) (iblk m c 6 t)
    = fill (s := S128x4x128) ![0, 0, 0] (by decide) (pair m c t) := by
  refine congrArg (fill (s := S128x4x128) ![0, 0, 0] (by decide)) (?_ : k0_pay15 (F := Ideal) _ _ _ = _)
  simp (disch := decide) only [View.readAt_eq_ld, View.ld_unit_lit', Memref.IsWhole.read_unread]

theorem stored_ofX : kernelRun0_A.sl.HS5_1 (F := Ideal) c (ms0_0 t) (hs0_0 t) (ms0_3 t) (hs0_3 t) (iblk m c 0 t) (iblk m c 3 t)
    = fill (s := S128x256) ![0, 0] (by decide) (ofX m c t) := by
  refine congrArg (fill (s := S128x256) ![0, 0] (by decide)) (?_ : k0_pay16 (F := Ideal) _ _ = _)
  simp (disch := decide) only [View.readAt_eq_ld, View.ld_unit_lit', Memref.IsWhole.read_unread]

end Cert.Stored

end
-- ==== Proof.Point.lean ====
/-
  What one grid point writes (`point`): at its row `r`, any row `n` and output `h`, the gelu of the sum of the context's part,
  the pairing's part and the two rows' parts of the linear layer.
-/
module

public import proofs.«01_k».proof.Proof.Row
public import proofs.«01_k».proof.Proof.Group
public import proofs.«01_k».proof.Proof.Stored

@[expose] public section

set_option maxRecDepth 16384

noncomputable section

namespace Cert.Point

open Idealize.ShloMosaic Idealize.ShloMosaic.TcCoe
open Cert.RangeMax Cert.Scan Cert.Context Cert.Group Cert.Row Cert.KernelIdeal Cert.KernelIdeal.Gen Cert.KernelIdeal.Value
open Cert.Kept Cert.Reads Cert.Stored

variable (m : (ℓ : Loc nD τ sig) → Buf (Elt Ideal) ℓ) (c : Dev nD) (t : Fin cfg0.N)

/-- Lane `l` of the batch element's rows of `x`. -/
abbrev lane (l : Fin 256) : ℕ → EReal := seq fun n => iblk m c 0 (start t) (ix3 0 n l)

/-- The context's part of the linear layer. -/
def ofContext (r : Fin 32) (n : Fin 128) (h : Fin 256) : EReal :=
  ∑ l : Fin 256, rng (lane m c t l) (min (32 * (t.val % 4) + r) n) (max (32 * (t.val % 4) + r) n + 1) * iblk m c 5 t (ix2 l h)

/-- The place in the batch element of the point's row `r`. -/
abbrev place (r : ℕ) (hr : r < 32) : Fin 128 := ⟨32 * (t.val % 4) + r, by omega⟩

/-- What the point writes. -/
def value (r : Fin 32) (n : Fin 128) (h : Fin 256) : EReal :=
  gelu (ofContext m c t r n h + ∑ k : Fin 4, pair m c (start t) (ix3 (place t r r.isLt) k n) * iblk m c 7 t (ix2 k h)
    + (ofY m c (start t) (ix2 n h) + ofX m c (start t) (ix2 (place t r r.isLt) h)))

theorem pre_at (n : Fin 128) (l : Fin 256) :
    pre m c (start t) (ix2 n l) = rng (lane m c t l) (n.val / 16 * 16) (n + 1) :=
  prefix_at _ (lane m c t) (fun n l => by
    rw [lane, seq_apply]
    pointwise [k0_pay10]) n l

theorem suf_at (n : Fin 128) (l : Fin 256) :
    suf m c (start t) (ix2 n l) = rng (lane m c t l) n (n.val / 16 * 16 + 16) :=
  suffix_stored_at _ (lane m c t) (fun n l => by
    rw [lane, seq_apply]
    pointwise [k0_pay10]) n l

theorem agg_at (b : Fin 8) (l : Fin 256) :
    agg m c (start t) (ix2 b l) = rng (lane m c t l) (16 * b) (16 * b + 16) :=
  block_at _ (lane m c t) (fun n l => by
    rw [lane, seq_apply]
    pointwise [k0_pay10]) b l

/-- The number of a block. -/
theorem blocks (b : Fin 8) : iota .tc S8x1 32 [0] iota_S8x1_d0_w32 (ix2 b 0) = BitVec.ofNat 32 b := by
  pointwise

/-- The number of a row. -/
theorem numbers (n : Fin 128) : iota .tc S1x128x1 32 [1] iota_S1x128x1_d1_w32 (ix3 0 n 0) = BitVec.ofNat 32 n := by
  pointwise

/-- One stored row holds what the point is to write. -/
theorem piece {t : Fin cfg0.N} {s3 : FVec Ideal S32x128x256 .f32} {cn : FVec Ideal S128x256 .f32} {w4 : FVec Ideal S4x256 .f32}
    (hs3 : ∀ r n h, s3 (ix3 r n h) = ofContext m c t r n h) (hcn : cn = ofY m c (start t)) (hw : w4 = iblk m c 7 t)
    {r : ℕ} {hr} {z : FVec Ideal S1x4x128 .f32} {a : FVec Ideal S1x256 .f32} {x : S1x1x128x256.Idx}
    {q : Fin 32} {n : Fin 128} {h : Fin 256} (hlt : r < 32) (h1 : q.val = r) (h2 : n.val = (x 2).val) (h3 : h.val = (x 3).val)
    (hz : ∀ k n, z (ix3 0 k n) = pair m c (start t) (ix3 (place t r hlt) k n))
    (ha : ∀ h, a (ix2 0 h) = ofX m c (start t) (ix2 (place t r hlt) h)) :
    row r hr s3 cn z w4 a x = value m c t q n h := by
  have hx : x = ix4 0 0 n h := by
    funext a
    fin_cases a
    · exact Subsingleton.elim (α := Fin 1) _ _
    · exact Subsingleton.elim (α := Fin 1) _ _
    · exact Fin.ext h2.symm
    · exact Fin.ext h3.symm
  obtain rfl : q = ⟨r, hlt⟩ := Fin.ext h1
  subst hcn hw
  rw [hx]
  refine (row_at ⟨r, hlt⟩ s3 _ z _ a n h).trans ?_
  rw [hs3, ha]
  simp only [hz]
  rfl

section First

variable {t} (hst : start t = t)
include hst

theorem read_pre : View.read (Elt Ideal) scM0_1.view (scM0_1.view.writes (Elt Ideal) scM0_1.view.junk
    (kernelRun0_A.sl.HS1_1 c (ms0_0 t) (hs0_0 t) (iblk m c 0 t))) = pre m c (start t) := by
  rw [stored_pre, hst]
  exact fill_at (by decide)

theorem read_suf : View.read (Elt Ideal) scM0_2.view (scM0_2.view.writes (Elt Ideal) scM0_2.view.junk
    (kernelRun0_A.sl.HS2_1 c (ms0_0 t) (hs0_0 t) (iblk m c 0 t))) = suf m c (start t) := by
  rw [stored_suf, hst]
  exact fill_at (by decide)

theorem read_pair : View.read (Elt Ideal) scM0_4.view (scM0_4.view.writes (Elt Ideal) scM0_4.view.junk
    (kernelRun0_A.sl.HS4_1 c (ms0_0 t) (hs0_0 t) (ms0_2 t) (hs0_2 t) (ms0_6 t) (hs0_6 t)
      (iblk m c 0 t) (iblk m c 2 t) (iblk m c 6 t))) = pair m c (start t) := by
  rw [stored_pair, hst]
  exact fill_at (by decide)

theorem read_ofX : View.read (Elt Ideal) scM0_5.view (scM0_5.view.writes (Elt Ideal) scM0_5.view.junk
    (kernelRun0_A.sl.HS5_1 c (ms0_0 t) (hs0_0 t) (ms0_3 t) (hs0_3 t) (iblk m c 0 t) (iblk m c 3 t))) = ofX m c (start t) := by
  rw [stored_ofX, hst]
  exact fill_at (by decide)

theorem word_ofY : kernelRun0_A.sl.v318 (F := Ideal) c (ms0_2 t) (hs0_2 t) (ms0_4 t) (hs0_4 t) (ms0_8 t) (hs0_8 t) scM0_0
    (iblk m c 2 t) (iblk m c 4 t) (iblk m c 8 t) = ofY m c (start t) := by
  unfold kernelRun0_A.sl.v318
  rw [stored_ofY, hst]
  exact filled_at (by decide)

theorem word_pre : kernelRun0_A.sl.v11 (F := Ideal) c (ms0_0 t) (hs0_0 t) scM0_1 (iblk m c 0 t) = pre m c (start t) := by
  unfold kernelRun0_A.sl.v11
  rw [stored_pre, hst]
  exact filled_at (by decide)

theorem word_suf : kernelRun0_A.sl.v12 (F := Ideal) c (ms0_0 t) (hs0_0 t) scM0_2 (iblk m c 0 t) = suf m c (start t) := by
  unfold kernelRun0_A.sl.v12
  rw [stored_suf, hst]
  exact filled_at (by decide)

theorem word_agg : kernelRun0_A.sl.v10 (F := Ideal) c (ms0_0 t) (hs0_0 t) scM0_3 (iblk m c 0 t) = agg m c (start t) := by
  unfold kernelRun0_A.sl.v10
  rw [stored_agg, hst]
  exact filled_at (by decide)

/-- The context's part at the first point. -/
theorem context_first (hX : ∀ (r : Fin 32) (l : Fin 256), iblk m c 1 t (ix3 0 r l) = lane m c t l (32 * (t.val % 4) + r))
    (r : Fin 32) (n : Fin 128) (h : Fin 256) :
    kernelRun0_A.sl.r_14 (F := Ideal) c (grid0.coords t) (ms0_0 t) (hs0_0 t) (ms0_1 t) (hs0_1 t) (ms0_5 t) (hs0_5 t)
      scM0_1 scM0_2 scM0_3 (iblk m c 0 t) (iblk m c 1 t) (iblk m c 5 t) (ix3 r n h) = ofContext m c t r n h := by
  have e3 : View.readAt (Elt Ideal) (ms0_5 t).view (Rect.unit ![0, 0] S256x256.size inb_S256x256_S256x256_0_0).toLoadRect
      ((hs0_5 t).unread (iblk m c 5 t)) = iblk m c 5 t := whole_at (Memref.IsWhole.read_unread _ _) (by decide)
  have e5 : kernelRun0_A.sl.r (F := Ideal) c (ms0_1 t) (hs0_1 t) (iblk m c 1 t) = k0_pay12 (iblk m c 1 t) :=
    congrArg k0_pay12 (whole_at (Memref.IsWhole.read_unread _ _) (by decide))
  have e6 : kernelRun0_A.sl.r_6 (F := Ideal) c (grid0.coords t) (ms0_0 t) (hs0_0 t) (ms0_1 t) (hs0_1 t) scM0_1 scM0_2 scM0_3
      (iblk m c 0 t) (iblk m c 1 t) = _ := first_eq _ _ _ _ _ _ _ _ _
  refine (congrFun (last_eq _ _ _ _ _ _ _ _ _ _ _) _).trans ?_
  rw [e6, word_agg m c hst, word_pre m c hst, word_suf m c hst, e3, e5]
  exact context_at t blocks numbers (pre_at m c t) (suf_at m c t) (agg_at m c t) hX
    (rows_at (read_suf m c hst) t (by decide)) (rows_at (read_pre m c hst) t (by decide))
    (rows_at (read_suf m c hst) t (by decide)) (rows_at (read_pre m c hst) t (by decide)) _ r n h

end First

set_option maxHeartbeats 400000 in
/-- What the first point of a batch element writes. -/
theorem point_first (hX : ∀ (r : Fin 32) (l : Fin 256), iblk m c 1 t (ix3 0 r l) = lane m c t l (32 * (t.val % 4) + r))
    (hA : t.val % 4 = 0) (y : S1x32x128x256.Idx) : (outsAt0 m c t.val t.isLt).1 y = value m c t (y 1) (y 2) (y 3) := by
  have hst : start t = t := Fin.ext (by simp only; omega)
  rw [outsAt0_A m c t hA]
  dsimp only
  unfold out0_A_9
  unfold kernelRun0_A
  dsimp only
  rw [View.read_writes_junk_eq_canon]
  canon_tiles x hh
  all_goals
    try dsimp only [
      kernelRun0_A.sl.r_15, kernelRun0_A.sl.r_16, kernelRun0_A.sl.r_17, kernelRun0_A.sl.r_18, kernelRun0_A.sl.r_19,
      kernelRun0_A.sl.r_20, kernelRun0_A.sl.r_21, kernelRun0_A.sl.r_22, kernelRun0_A.sl.r_23, kernelRun0_A.sl.r_24,
      kernelRun0_A.sl.r_25, kernelRun0_A.sl.r_26, kernelRun0_A.sl.r_27, kernelRun0_A.sl.r_28, kernelRun0_A.sl.r_29,
      kernelRun0_A.sl.r_30, kernelRun0_A.sl.r_31, kernelRun0_A.sl.r_32, kernelRun0_A.sl.r_33, kernelRun0_A.sl.r_34,
      kernelRun0_A.sl.r_35, kernelRun0_A.sl.r_36, kernelRun0_A.sl.r_37, kernelRun0_A.sl.r_38, kernelRun0_A.sl.r_39,
      kernelRun0_A.sl.r_40, kernelRun0_A.sl.r_41, kernelRun0_A.sl.r_42, kernelRun0_A.sl.r_43, kernelRun0_A.sl.r_44,
      kernelRun0_A.sl.r_45, kernelRun0_A.sl.r_46, kernelRun0_A.sl.r_47, kernelRun0_A.sl.r_48, kernelRun0_A.sl.r_49,
      kernelRun0_A.sl.r_50, kernelRun0_A.sl.r_51, kernelRun0_A.sl.r_52, kernelRun0_A.sl.r_53, kernelRun0_A.sl.r_54,
      kernelRun0_A.sl.cst_563]
    refine piece m c (context_first m c hst hX) (word_ofY m c hst) ?_ (by decide) (by omega) hh2 hh3 ?_ ?_
    · exact whole_at (Memref.IsWhole.read_unread _ _) (by decide)
    · exact pair_row (read_pair m c hst) t (by decide)
    · exact one_row (read_ofX m c hst) t (by decide)

/-- The context's part at the other points. -/
theorem context_later (hX : ∀ (r : Fin 32) (l : Fin 256), iblk m c 1 t (ix3 0 r l) = lane m c t l (32 * (t.val % 4) + r))
    {k1 : scM0_1.IsWhole} {k2 : scM0_2.IsWhole} {k3 : scM0_3.IsWhole} (r : Fin 32) (n : Fin 128) (h : Fin 256) :
    kernelRun0_B.sl.r_17 (F := Ideal) c (grid0.coords t) (ms0_1 t) (hs0_1 t) (ms0_5 t) (hs0_5 t)
      scM0_1 k1 scM0_2 k2 scM0_3 k3 (iblk m c 1 t) (iblk m c 5 t)
      (pre m c (start t)) (suf m c (start t)) (agg m c (start t)) (ix3 r n h) = ofContext m c t r n h := by
  have e1 : kernelRun0_B.sl.r_1 (F := Ideal) c scM0_3 k3 (agg m c (start t)) = agg m c (start t) :=
    whole_at (Memref.IsWhole.read_unread _ _) (by decide)
  have e2 : kernelRun0_B.sl.r_2 (F := Ideal) c scM0_1 k1 (pre m c (start t)) = pre m c (start t) :=
    whole_at (Memref.IsWhole.read_unread _ _) (by decide)
  have e4 : kernelRun0_B.sl.r_3 (F := Ideal) c scM0_2 k2 (suf m c (start t)) = suf m c (start t) :=
    whole_at (Memref.IsWhole.read_unread _ _) (by decide)
  have e3 : View.readAt (Elt Ideal) (ms0_5 t).view (Rect.unit ![0, 0] S256x256.size inb_S256x256_S256x256_0_0).toLoadRect
      ((hs0_5 t).unread (iblk m c 5 t)) = iblk m c 5 t := whole_at (Memref.IsWhole.read_unread _ _) (by decide)
  have e5 : kernelRun0_B.sl.r (F := Ideal) c (ms0_1 t) (hs0_1 t) (iblk m c 1 t) = k0_pay12 (iblk m c 1 t) :=
    congrArg k0_pay12 (whole_at (Memref.IsWhole.read_unread _ _) (by decide))
  have e6 : kernelRun0_B.sl.r_9 (F := Ideal) c (grid0.coords t) (ms0_1 t) (hs0_1 t) scM0_1 k1 scM0_2 k2 scM0_3 k3
      (iblk m c 1 t) (pre m c (start t)) (suf m c (start t)) (agg m c (start t)) = _ := first_eq _ _ _ _ _ _ _ _ _
  refine (congrFun (last_eq _ _ _ _ _ _ _ _ _ _ _) _).trans ?_
  rw [e6, e1, e2, e4, e3, e5]
  exact context_at t blocks numbers (pre_at m c t) (suf_at m c t) (agg_at m c t) hX
    (rows_at (Memref.IsWhole.read_unread _ _) t (by decide)) (rows_at (Memref.IsWhole.read_unread _ _) t (by decide))
    (rows_at (Memref.IsWhole.read_unread _ _) t (by decide)) (rows_at (Memref.IsWhole.read_unread _ _) t (by decide)) _ r n h

set_option maxHeartbeats 400000 in
/-- What the other points write. -/
theorem point_later (hX : ∀ (r : Fin 32) (l : Fin 256), iblk m c 1 t (ix3 0 r l) = lane m c t l (32 * (t.val % 4) + r))
    (hB : ¬ t.val % 4 = 0) (y : S1x32x128x256.Idx) : (outsAt0 m c t.val t.isLt).1 y = value m c t (y 1) (y 2) (y 3) := by
  have hk := kept m c ⟨t.val - 1, by omega⟩
  have hst : start ⟨t.val - 1, by omega⟩ = start t := Fin.ext (by simp only; omega)
  rw [hst] at hk
  dsimp only at hk
  rw [outsAt0_B m c t hB, hk]
  dsimp only
  unfold out0_B_9
  unfold kernelRun0_B
  dsimp only
  rw [View.read_writes_junk_eq_canon]
  canon_tiles x hh
  all_goals
    try dsimp only [
      kernelRun0_B.sl.r_19, kernelRun0_B.sl.r_20, kernelRun0_B.sl.r_21, kernelRun0_B.sl.r_22, kernelRun0_B.sl.r_23,
      kernelRun0_B.sl.r_24, kernelRun0_B.sl.r_25, kernelRun0_B.sl.r_26, kernelRun0_B.sl.r_27, kernelRun0_B.sl.r_28,
      kernelRun0_B.sl.r_29, kernelRun0_B.sl.r_30, kernelRun0_B.sl.r_31, kernelRun0_B.sl.r_32, kernelRun0_B.sl.r_33,
      kernelRun0_B.sl.r_34, kernelRun0_B.sl.r_35, kernelRun0_B.sl.r_36, kernelRun0_B.sl.r_37, kernelRun0_B.sl.r_38,
      kernelRun0_B.sl.r_39, kernelRun0_B.sl.r_40, kernelRun0_B.sl.r_41, kernelRun0_B.sl.r_42, kernelRun0_B.sl.r_43,
      kernelRun0_B.sl.r_44, kernelRun0_B.sl.r_45, kernelRun0_B.sl.r_46, kernelRun0_B.sl.r_47, kernelRun0_B.sl.r_48,
      kernelRun0_B.sl.r_49, kernelRun0_B.sl.r_50, kernelRun0_B.sl.r_51, kernelRun0_B.sl.r_52, kernelRun0_B.sl.r_53,
      kernelRun0_B.sl.r_54, kernelRun0_B.sl.r_55, kernelRun0_B.sl.r_56, kernelRun0_B.sl.r_57, kernelRun0_B.sl.r_58,
      kernelRun0_B.sl.cst_82]
    refine piece m c (context_later m c t hX) ?_ ?_ (by decide) (by omega) hh2 hh3 ?_ ?_
    · exact whole_at (Memref.IsWhole.read_unread _ _) (by decide)
    · exact whole_at (Memref.IsWhole.read_unread _ _) (by decide)
    · exact pair_row (Memref.IsWhole.read_unread _ _) t (by decide)
    · exact one_row (Memref.IsWhole.read_unread _ _) t (by decide)

/-- What a point writes. -/
theorem point (hX : ∀ (r : Fin 32) (l : Fin 256), iblk m c 1 t (ix3 0 r l) = lane m c t l (32 * (t.val % 4) + r))
    (y : S1x32x128x256.Idx) : (outsAt0 m c t.val t.isLt).1 y = value m c t (y 1) (y 2) (y 3) := by
  rcases Nat.eq_zero_or_pos (t.val % 4) with h | h
  · exact point_first m c t hX h y
  · exact point_later m c t hX (by omega) y

end Cert.Point

end
-- ==== Proof.Products.lean ====
/-
  The products that the kernel computes in a batch element's first grid point: the linear layer's parts that depend on one
  row alone (`of_y_at`, `of_x_at`) and the pairing of two rows through the four matrices (`pair_at`).
-/
module

public import proofs.«01_k».proof.Proof.Gen.KernelIdeal.Skeleton
public import Idealize.ShloMosaic.Lib.Pointwise
public import Idealize.ShloMosaic.Lib.Pointwise.IndexVar

@[expose] public section

set_option maxRecDepth 16384

noncomputable section

namespace Cert.Products

open Idealize.ShloMosaic Idealize.ShloMosaic.TcCoe
open Cert.KernelIdeal Cert.KernelIdeal.Gen

variable (x y : FVec Ideal S1x128x256 .f32)

/-- The part of the linear layer that a row of `y` gives, the bias included. -/
theorem of_y_at (w : FVec Ideal S256x256 .f32) (b : FVec Ideal S1x256 .f32) (n : Fin 128) (h : Fin 256) :
    k0_pay2 (F := Ideal) (k0_pay11 y) w b (ix2 n h) = ∑ p : Fin 256, y (ix3 0 n p) * w (ix2 p h) + b (ix2 0 h) := by
  pointwise [k0_pay2, k0_pay11]

/-- The part that a row of `x` gives. -/
theorem of_x_at (w : FVec Ideal S256x256 .f32) (n : Fin 128) (h : Fin 256) :
    k0_pay16 (F := Ideal) x w (ix2 n h) = ∑ p : Fin 256, x (ix3 0 n p) * w (ix2 p h) := by
  pointwise [k0_pay16, k0_pay10]

/-- The row `n` of `x` and the row `n'` of `y` paired through the `k`-th of the four matrices, which lie side by side in `v`. -/
theorem pair_at (v : FVec Ideal S256x1024 .f32) (n : Fin 128) (k : Fin 4) (n' : Fin 128) :
    k0_pay15 (F := Ideal) x y v (ix3 n k n')
      = ∑ d : Fin 256, (∑ p : Fin 256, x (ix3 0 n p) * v (ix2 p ⟨k.val * 256 + d, by omega⟩)) * y (ix3 0 n' d) := by
  pointwise [k0_pay15, k0_pay10, k0_pay11]
  refine Finset.sum_congr rfl fun d _ => ?_
  congr 1
  refine Finset.sum_congr rfl fun p _ => ?_
  congr 3
  refine Fin.ext ?_
  simp only
  omega

end Cert.Products

end
-- ==== Proof.Result.lean ====
/-
  What the kernel's result array holds after the run (`result_eq`): at batch element `b`, rows `m` and `n` and output `h`,
  the gelu of `total`, a sum of sums over the arguments.
-/
module

public import proofs.«01_k».proof.Proof.Blocks
public import proofs.«01_k».proof.Proof.Point
public import proofs.«01_k».proof.Proof.Products

@[expose] public section

set_option maxRecDepth 16384

noncomputable section

namespace Cert.Result

open Idealize.ShloMosaic Idealize.ShloMosaic.TcCoe
open Cert.RangeMax Cert.Products Cert.Row Cert.KernelIdeal Cert.KernelIdeal.Gen Cert.KernelIdeal.Value
open Cert.Kept Cert.Point Cert.Blocks

/-- The linear layer's sum, in the order in which the kernel adds: the context's part, the pairing's, `y`'s with the bias, and
    `x`'s. -/
def total (X Y : FVec Ideal S2x128x256 .f32) (V : FVec Ideal S4x256x256 .f32) (W : FVec Ideal S256x772 .f32)
    (B : FVec Ideal S256 .f32) (b : Fin 2) (r n : Fin 128) (h : Fin 256) : EReal :=
  ∑ l : Fin 256, rng (seq fun k => X (ix3 b k l)) (min r.val n) (max r.val n + 1) * W (ix2 h ⟨512 + l, by omega⟩)
    + ∑ k : Fin 4, (∑ d : Fin 256, (∑ p : Fin 256, X (ix3 b r p) * V (ix3 k p d)) * Y (ix3 b n d)) * W (ix2 h ⟨768 + k, by omega⟩)
    + ((∑ p : Fin 256, Y (ix3 b n p) * W (ix2 h ⟨256 + p, by omega⟩) + B (ix1 h))
      + ∑ p : Fin 256, X (ix3 b r p) * W (ix2 h ⟨p, by omega⟩))

variable (m : (ℓ : Loc nD τ sig) → Buf (Elt Ideal) ℓ) (c : Dev nD) (t : Fin cfg0.N)

/-- The first point of a batch element is in it. -/
theorem batch_start : batch (start t) = batch t := Fin.ext (by simp only; omega)

/-- What a point writes, over the arguments. -/
theorem value_eq (r : Fin 32) (n : Fin 128) (h : Fin 256) :
    value m c t r n h
      = gelu (total (argX m c) (argY m c) (argV m c) (argW m c) (argB m c) (batch t) ⟨32 * (t.val % 4) + r, by omega⟩ n h) := by
  unfold value ofContext total
  congr 1
  refine congrArg₂ (· + ·) (congrArg₂ (· + ·) ?_ ?_) (congrArg₂ (· + ·) ?_ ?_)
  · refine Finset.sum_congr rfl fun l _ => congrArg₂ (· * ·) ?_ (w3_at m c t l h)
    unfold lane
    simp only [x_at, batch_start]
  · refine Finset.sum_congr rfl fun k _ => congrArg₂ (· * ·) ?_ (w4_at m c t k h)
    refine (pair_at _ _ _ _ k n).trans ?_
    simp only [x_at, y_at, v_at, batch_start]
  · refine (of_y_at _ _ _ n h).trans ?_
    simp only [y_at, w2_at, b_at, batch_start]
  · refine (of_x_at _ _ _ h).trans ?_
    simp only [x_at, w1_at, batch_start]

/-- The result. -/
def result (X Y : FVec Ideal S2x128x256 .f32) (V : FVec Ideal S4x256x256 .f32) (W : FVec Ideal S256x772 .f32)
    (B : FVec Ideal S256 .f32) : FVec Ideal S2x128x128x256 .f32 := fun i => gelu (total X Y V W B (i 0) (i 1) (i 2) (i 3))

/-- What a point writes at an entry of its block is the result at the block's place. -/
theorem point_eq (y : S1x32x128x256.Idx) : (outsAt0 m c t.val t.isLt).1 y
    = result (argX m c) (argY m c) (argV m c) (argW m c) (argB m c) (((cfg0.win 9).blk t).view.emb y) := by
  refine (point m c t (fun r l => ?_) y).trans ((value_eq m c t (y 1) (y 2) (y 3)).trans ?_)
  · refine (rows_at m c t r l).trans ?_
    refine Eq.trans ?_ (seq_apply _ (⟨32 * (t.val % 4) + r, by omega⟩ : Fin 128)).symm
    rw [x_at, batch_start]
  · unfold result
    congr 2
    all_goals
      refine Fin.ext ?_
      blk_simp [idx t]
    simp only
    omega

/-- The kernel's result array after the run. -/
theorem result_eq : G9 m c = result (argX m c) (argY m c) (argV m c) (argW m c) (argB m c) := by
  refine (final9 m c).symm.trans ((dats m 0 c).arrAt_eq_of_covers 9 _ (by decide +kernel) fun t _ y => ?_)
  blk_simp
  rw [after0_9]
  exact point_eq m c t y

end Cert.Result

end
-- ==== Proof.Reference.lean ====
/-
  The reference, entry by entry: its context is the maximum over the rows between two (`context_at`), its pairing a sum of
  products of three factors (`pairing_at`), its linear layer a sum over the 772 joined entries, part by part (`linear_at`).
-/
module

public import proofs.«01_k».proof.Proof.Consts
public import proofs.«01_k».proof.Proof.RangeMax
public import proofs.«01_k».proof.Proof.Gen.ReferenceIdeal.Run
public import Idealize.ShloMosaic.Lib.Pointwise
public import Idealize.ShloMosaic.Lib.Pointwise.IndexVar
public import Idealize.ShloMosaic.Lib.WordCmp

@[expose] public section

set_option maxRecDepth 16384

noncomputable section

namespace Cert.Reference

open Idealize.ShloMosaic Idealize.ShloMosaic.TcCoe
open Cert.RangeMax Cert.ReferenceIdeal Cert.ReferenceIdeal.Gen

variable (X Y : FVec Ideal S2x128x256 .f32) (V : FVec Ideal S4x256x256 .f32) (W : FVec Ideal S256x772 .f32)
  (B : FVec Ideal S256 .f32)

/-- `x` repeated along the second row index. -/
def firsts : FVec Ideal S2x128x128x256 .f32 :=
  broadcastInDim S2x128x128x256 ![0, 1, 2, 3] bcast_S2x128x1x256_S2x128x128x256_0_1_2_3
    (broadcastInDim S2x128x1x256 ![0, 1, 3] bcast_S2x128x256_S2x128x1x256_0_1_3 X)

/-- `y` repeated along the first row index. -/
def seconds : FVec Ideal S2x128x128x256 .f32 :=
  broadcastInDim S2x128x128x256 ![0, 1, 2, 3] bcast_S2x1x128x256_S2x128x128x256_0_1_2_3
    (broadcastInDim S2x1x128x256 ![0, 2, 3] bcast_S2x128x256_S2x1x128x256_0_2_3 Y)

/-- Which `k` lie between `m` and `n`. -/
def inside : IVec S128x128x128 1 :=
  andi (cmpi .sle (minsi (iotaInDim S128x128x128 32 0) (iotaInDim S128x128x128 32 1)) (iotaInDim S128x128x128 32 2))
    (cmpi .sle (iotaInDim S128x128x128 32 2) (maxsi (iotaInDim S128x128x128 32 0) (iotaInDim S128x128x128 32 1)))

/-- `x`'s rows with `-∞` in place of those outside. -/
def masked : FVec Ideal S2x128x128x128x256 .f32 :=
  select (broadcastInDim S2x128x128x128x256 ![0, 1, 2, 3, 4] bcast_S1x128x128x128x1_S2x128x128x128x256_0_1_2_3_4
      (broadcastInDim S1x128x128x128x1 ![1, 2, 3] bcast_S128x128x128_S1x128x128x128x1_1_2_3 inside))
    (broadcastInDim S2x128x128x128x256 ![0, 1, 2, 3, 4] bcast_S2x1x1x128x256_S2x128x128x128x256_0_1_2_3_4
      (broadcastInDim S2x1x1x128x256 ![0, 3, 4] bcast_S2x128x256_S2x1x1x128x256_0_3_4 X))
    (broadcastInDim S2x128x128x128x256 ![] bcast_S_S2x128x128x128x256 (id (constant S_ .f32 0xFF800000#32)))

/-- The context. -/
def context : FVec Ideal S2x128x128x256 .f32 :=
  Host.reduce FloatOps.maximumf (masked X) (constant S_ .f32 0xFF800000#32) reducesTo_S2x128x128x128x256_S2x128x128x256_d3 h_S_

/-- The pairing. -/
def pairing : FVec Ideal S2x128x128x4 .f32 :=
  Host.dotGeneral dot_S2x128x128x256_S4x256x2x128x128_S2x128x128x4_3_1_n_0_012_234 none (seconds Y)
    (Host.dotGeneral dot_S4x256x256_S2x128x128x256_S4x256x2x128x128_1_3_02_012_n_n none V (firsts X))

/-- The four parts side by side. -/
def joined : FVec Ideal S2x128x128x772 .f32 :=
  concatenate S2x128x128x772 3 [⟨S2x128x128x256, firsts X⟩, ⟨S2x128x128x256, seconds Y⟩, ⟨S2x128x128x256, context X⟩,
    ⟨S2x128x128x4, pairing X Y V⟩] concatenates_S2x128x128x256_S2x128x128x256_S2x128x128x256_S2x128x128x4_S2x128x128x772_d3

/-- The linear layer. -/
def linear : FVec Ideal S2x128x128x256 .f32 :=
  addf (Host.dotGeneral dot_S2x128x128x772_S772x256_S2x128x128x256_3_0_012_1_n_n none (joined X Y V)
      (transpose S772x256 [1, 0] W transposes_S256x772_S772x256_1_0))
    (broadcastInDim S2x128x128x256 ![0, 1, 2, 3] bcast_S1x1x1x256_S2x128x128x256_0_1_2_3
      (broadcastInDim S1x1x1x256 ![3] bcast_S256_S1x1x1x256_3 B))

/-- The gelu of an array. -/
def activated (T : FVec Ideal S2x128x128x256 .f32) : FVec Ideal S2x128x128x256 .f32 :=
  mulf (mulf (broadcastInDim S2x128x128x256 ![] bcast_S_S2x128x128x256 (constant S_ .f32 0x3F000000#32)) T)
    (Host.erfc (Host.divf (Host.negf T)
      (broadcastInDim S2x128x128x256 ![] bcast_S_S2x128x128x256 (id (Host.sqrt (constant S_ .f32 0x40000000#32))))))

/-- The smaller of two indices as words. -/
theorem min_word (a b : Fin 128) : IntOp.minsi (BitVec.ofNat 32 a) (BitVec.ofNat 32 b) = BitVec.ofNat 32 (min a.val b) := by
  unfold IntOp.minsi BitVec.slt
  simp (disch := omega) only [hlo_ix]
  split <;> exact congrArg _ (by omega)

/-- The larger. -/
theorem max_word (a b : Fin 128) : IntOp.maxsi (BitVec.ofNat 32 a) (BitVec.ofNat 32 b) = BitVec.ofNat 32 (max a.val b) := by
  unfold IntOp.maxsi BitVec.slt
  simp (disch := omega) only [hlo_ix]
  split <;> exact congrArg _ (by omega)

/-- The comparisons of the indices, decided. -/
theorem inside_at (r n k : Fin 128) :
    inside (ix3 r n k) = if min r.val n ≤ k.val ∧ k.val < max r.val n + 1 then 1#1 else 0#1 := by
  pointwise [inside]
  rw [min_word, max_word]
  simp (disch := omega) only [hlo_ix]
  split
  · next h =>
    simp only [h.1, Nat.lt_succ_iff.mp h.2, decide_true, Bool.and_self]
    rfl
  · next h =>
    refine congrArg BitVec.ofBool (Bool.eq_false_iff.mpr fun e => h ?_)
    simp only [Bool.and_eq_true, decide_eq_true_eq] at e
    omega

/-- `x`'s row where it lies between the two, and `-∞` elsewhere. -/
theorem masked_at (b : Fin 2) (r n k : Fin 128) (l : Fin 256) :
    masked X (ix5 b r n k l) = if min r.val n ≤ k.val ∧ k.val < max r.val n + 1 then X (ix3 b k l) else ⊥ := by
  pointwise [masked, inside_at]
  split
  · rfl
  · exact Consts.ofBits_bot

/-- An entry of the context is the maximum over the rows from the one to the other. -/
theorem context_at (b : Fin 2) (r n : Fin 128) (l : Fin 256) :
    context X (ix4 b r n l) = rng (seq fun k => X (ix3 b k l)) (min r.val n) (max r.val n + 1) := by
  pointwise [context]
  rw [Consts.ofBits_bot]
  exact fold_eq_rng _ _ _ _ (by omega) (fun k hk => (masked_at X b r n k l).trans (if_pos hk))
    fun k hk => (masked_at X b r n k l).trans (if_neg hk)

/-- An entry of the first part. -/
theorem firsts_at (b : Fin 2) (r n : Fin 128) (p : Fin 256) : firsts X (ix4 b r n p) = X (ix3 b r p) := by
  pointwise [firsts]

/-- An entry of the second part. -/
theorem seconds_at (b : Fin 2) (r n : Fin 128) (p : Fin 256) : seconds Y (ix4 b r n p) = Y (ix3 b n p) := by
  pointwise [seconds]

/-- An entry of the pairing. -/
theorem pairing_at (b : Fin 2) (r n : Fin 128) (k : Fin 4) :
    pairing X Y V (ix4 b r n k) = ∑ d : Fin 256, (∑ p : Fin 256, X (ix3 b r p) * V (ix3 k p d)) * Y (ix3 b n d) := by
  pointwise [pairing, firsts_at, seconds_at]
  exact Finset.sum_congr rfl fun d _ => (mul_comm _ _).trans
    (congrArg (· * _) (Finset.sum_congr rfl fun p _ => mul_comm _ _))

/-- An entry of the joined array, in whichever part it lies. -/
theorem joined_at (b : Fin 2) (r n : Fin 128) (q : Fin 772) :
    joined X Y V (ix4 b r n q)
      = if h : q.val < 256 then firsts X (ix4 b r n ⟨q, h⟩)
        else if h : q.val - 256 < 256 then seconds Y (ix4 b r n ⟨q - 256, h⟩)
        else if h : q.val - 256 - 256 < 256 then context X (ix4 b r n ⟨q - 256 - 256, h⟩)
        else pairing X Y V (ix4 b r n ⟨q - 256 - 256 - 256, by omega⟩) := by
  pointwise [joined]

/-- Its first 256 entries are `x`'s. -/
theorem joined_x (b : Fin 2) (r n : Fin 128) (p : Fin 256) : joined X Y V (ix4 b r n ⟨p, by omega⟩) = X (ix3 b r p) := by
  refine (joined_at X Y V b r n _).trans ((dif_pos p.isLt).trans ?_)
  exact firsts_at X b r n p

/-- The next 256 are `y`'s. -/
theorem joined_y (b : Fin 2) (r n : Fin 128) (p : Fin 256) : joined X Y V (ix4 b r n ⟨256 + p, by omega⟩) = Y (ix3 b n p) := by
  refine (joined_at X Y V b r n _).trans ((dif_neg (by simp only; omega)).trans ((dif_pos (by simp only; omega)).trans ?_))
  exact (congrArg (fun q => seconds Y (ix4 b r n q)) (Fin.ext (by simp only; omega))).trans (seconds_at Y b r n p)

/-- The next 256 are the context's. -/
theorem joined_context (b : Fin 2) (r n : Fin 128) (l : Fin 256) : joined X Y V (ix4 b r n ⟨512 + l, by omega⟩)
    = rng (seq fun k => X (ix3 b k l)) (min r.val n) (max r.val n + 1) := by
  refine (joined_at X Y V b r n _).trans ((dif_neg (by simp only; omega)).trans ((dif_neg (by simp only; omega)).trans
    ((dif_pos (by simp only; omega)).trans ?_)))
  exact (congrArg (fun q => context X (ix4 b r n q)) (Fin.ext (by simp only; omega))).trans (context_at X b r n l)

/-- The last four are the pairing's. -/
theorem joined_pairing (b : Fin 2) (r n : Fin 128) (k : Fin 4) : joined X Y V (ix4 b r n ⟨768 + k, by omega⟩)
    = ∑ d : Fin 256, (∑ p : Fin 256, X (ix3 b r p) * V (ix3 k p d)) * Y (ix3 b n d) := by
  refine (joined_at X Y V b r n _).trans ((dif_neg (by simp only; omega)).trans ((dif_neg (by simp only; omega)).trans
    ((dif_neg (by simp only; omega)).trans ?_)))
  exact (congrArg (fun q => pairing X Y V (ix4 b r n q)) (Fin.ext (by simp only; omega))).trans (pairing_at X Y V b r n k)

/-- A sum over 772 terms, part by part. -/
theorem sum_parts (f : Fin 772 → EReal) :
    ∑ q, f q = ∑ p : Fin 256, f ⟨p, by omega⟩ + ∑ p : Fin 256, f ⟨256 + p, by omega⟩ + ∑ p : Fin 256, f ⟨512 + p, by omega⟩
      + ∑ k : Fin 4, f ⟨768 + k, by omega⟩ := by
  refine (Fin.sum_univ_add (a := 768) (b := 4) f).trans (congrArg (· + _) ?_)
  refine (Fin.sum_univ_add (a := 512) (b := 256) fun q => f (Fin.castAdd 4 q)).trans (congrArg (· + _) ?_)
  exact Fin.sum_univ_add (a := 256) (b := 256) fun q => f (Fin.castAdd 4 (Fin.castAdd 256 q))

/-- An entry of the linear layer, part by part. -/
theorem linear_at (b : Fin 2) (r n : Fin 128) (h : Fin 256) :
    linear X Y V W B (ix4 b r n h)
      = ∑ p : Fin 256, X (ix3 b r p) * W (ix2 h ⟨p, by omega⟩) + ∑ p : Fin 256, Y (ix3 b n p) * W (ix2 h ⟨256 + p, by omega⟩)
        + ∑ l : Fin 256, rng (seq fun k => X (ix3 b k l)) (min r.val n) (max r.val n + 1) * W (ix2 h ⟨512 + l, by omega⟩)
        + ∑ k : Fin 4, (∑ d : Fin 256, (∑ p : Fin 256, X (ix3 b r p) * V (ix3 k p d)) * Y (ix3 b n d)) * W (ix2 h ⟨768 + k, by omega⟩)
        + B (ix1 h) := by
  have e : linear X Y V W B (ix4 b r n h) = ∑ q : Fin 772, joined X Y V (ix4 b r n q) * W (ix2 h q) + B (ix1 h) := by
    pointwise [linear]
  rw [e, sum_parts]
  simp only [joined_x, joined_y, joined_context, joined_pairing]

/-- An entry of the gelu. -/
theorem activated_at (T : FVec Ideal S2x128x128x256 .f32) (b : Fin 2) (r n : Fin 128) (h : Fin 256) :
    activated T (ix4 b r n h) = Ideal.ofBits .f32 0x3F000000#32 * T (ix4 b r n h)
      * Ideal.erfc (Ideal.div (-T (ix4 b r n h)) (Ideal.sqrt (Ideal.ofBits .f32 0x40000000#32))) := by
  pointwise [activated]
  rfl

/-- The reference's result is the gelu of its linear layer. -/
theorem result_eq (m : (ℓ : Loc nD τ sig) → Buf (Elt Ideal) ℓ) (c : Dev nD) :
    Cert.ReferenceIdeal.Value.res_out0 m c = activated (linear (m ((c.tc : Thread nD τ).loc main_arg0))
      (m ((c.tc : Thread nD τ).loc main_arg1)) (m ((c.tc : Thread nD τ).loc main_arg2)) (m ((c.tc : Thread nD τ).loc main_arg3))
      (m ((c.tc : Thread nD τ).loc main_arg4))) := rfl

end Cert.Reference

end
-- ==== Proof.Equation.lean ====
/-
  The kernel's result is the reference's: the two linear layers are the same sums added in another order (`linear_eq`), and
  `erfc (-x/√2)` is `1 + erf (x · 1/√2)` (`gelu_eq`), so that the two arrays agree (`equation`).
-/
module

public import proofs.«01_k».proof.Proof.Result
public import proofs.«01_k».proof.Proof.Reference

@[expose] public section

set_option maxRecDepth 16384

noncomputable section

namespace Cert.Equation

open Idealize.ShloMosaic Idealize.ShloMosaic.TcCoe
open Cert.Row Cert.Result Cert.Reference Cert.KernelIdeal

/-- The gelu by `erfc` and a division by `√2` is the gelu by `erf` and a product with `1/√2`. -/
theorem gelu_eq (x : EReal) :
    Ideal.ofBits .f32 0x3F000000#32 * x * Ideal.erfc (Ideal.div (-x) (Ideal.sqrt (Ideal.ofBits .f32 0x40000000#32))) = gelu x := by
  have h1 : Ideal.ofBits .f32 0x3F800000#32 = ((1 : ℝ) : EReal) := by
    simp [Ideal.ofBits, Ideal.ieee, -EReal.coe_mul]
    norm_num
  have h2 : Real.sqrt 2 ≠ 0 := (Real.sqrt_pos.mpr two_pos).ne'
  have h3 : Ideal.sqrt (Ideal.ofBits .f32 0x40000000#32) = ((Real.sqrt 2 : ℝ) : EReal) := by
    rw [Consts.ofBits_two, Ideal.sqrt_coe, if_neg (show ¬(2 : ℝ) < 0 by norm_num)]
  rw [gelu, h1, EReal.coe_one, h3, Ideal.div_coe h2, one_div, EReal.neg_mul, Ideal.erfc_neg]

/-- The reference's linear layer is the kernel's sum. -/
theorem linear_eq (X Y : FVec Ideal S2x128x256 .f32) (V : FVec Ideal S4x256x256 .f32) (W : FVec Ideal S256x772 .f32)
    (B : FVec Ideal S256 .f32) (b : Fin 2) (r n : Fin 128) (h : Fin 256) :
    linear X Y V W B (ix4 b r n h) = total X Y V W B b r n h := by
  refine (linear_at X Y V W B b r n h).trans ?_
  have order (x y l k e : EReal) : x + y + l + k + e = l + k + (y + e + x) := by
    abel
  exact order _ _ _ _ _

/-- The reference's array is the kernel's. -/
theorem equation (X Y : FVec Ideal S2x128x256 .f32) (V : FVec Ideal S4x256x256 .f32) (W : FVec Ideal S256x772 .f32)
    (B : FVec Ideal S256 .f32) : activated (linear X Y V W B) = result X Y V W B := by
  funext i
  have e : i = ix4 (i 0) (i 1) (i 2) (i 3) := by
    funext a
    fin_cases a <;> rfl
  refine (congrArg (activated (linear X Y V W B)) e).trans ((activated_at _ (i 0) (i 1) (i 2) (i 3)).trans ((gelu_eq _).trans ?_))
  exact congrArg gelu (linear_eq X Y V W B (i 0) (i 1) (i 2) (i 3))

end Cert.Equation

end
-- ==== Proof.lean ====
/-
  The certificate: the kernel, the kernel over the extended reals and the reference each run to an end and leave their
  arguments unchanged; naming the constant `1/√2` is the one difference between the first two; and over the extended reals
  the kernel's result array is the reference's.
-/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Equation
public import Idealize.ShloMosaic.Adequacy
public import Idealize.ShloMosaic.Init
public import Idealize.ShloMosaic.Lib.Quiescent

@[expose] public section

noncomputable section

namespace Cert.Proof

open Idealize.ShloMosaic Idealize.SL.Sem

/-- The reference ends, leaves its arguments unchanged and leaves no counter raised. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel's literal for `1/√2` is the one thing that the second kernel names. -/
theorem preserves_Kernel_KernelIdeal : preserves_Kernel_KernelIdeal :=
  IdealRules.named_const.statement Cert.KernelIdeal.κ "inv_sqrt2" .f32 0x3F3504F3#32 (((Real.sqrt 2)⁻¹ : ℝ) : EReal) rfl

/-- From memories that agree on the arguments, the kernel and the reference end with the same result. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨(h c).1.trans ?_, (h c).2⟩)
    (Cert.ReferenceIdeal.Value.run (F := Ideal) m' ρ')
  refine (Cert.Reference.result_eq m' c).trans ?_
  refine (Cert.Equation.equation _ _ _ _ _).trans ?_
  simp only [hagree c]
  exact (Cert.Result.result_eq m c).symm

/-- The five claims together. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, quiescent_ReferenceIdeal,
  preserves_Kernel_KernelIdeal, algebraic_KernelIdeal_ReferenceIdeal⟩

end Cert.Proof

end
